-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![4096, 2048]⟩ (Layout.meshBlock [2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048 : Shape := ⟨1, ![2048]⟩
abbrev S_ : Shape := ⟨0, ![]⟩
abbrev S1 : Shape := ⟨1, ![1]⟩
abbrev S2x2048 : Shape := ⟨2, ![2, 2048]⟩
abbrev S512x2048 : Shape := ⟨2, ![512, 2048]⟩
abbrev S3x2x2048 : Shape := ⟨3, ![3, 2, 2048]⟩
abbrev S3 : Shape := ⟨1, ![3]⟩
abbrev S512 : Shape := ⟨1, ![512]⟩
abbrev S512x1 : Shape := ⟨2, ![512, 1]⟩
abbrev S1x2048 : Shape := ⟨2, ![1, 2048]⟩
abbrev S1x2x2048 : Shape := ⟨3, ![1, 2, 2048]⟩

abbrev nBuf : Space → Nat
  | .hbm => 10
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2x2048, .f32⟩
  | .local _ .vmem, ⟨5, _⟩ => ⟨S2x2048, .f32⟩
  | .local _ .vmem, ⟨6, _⟩ => ⟨S3x2x2048, .f32⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 4
abbrev τ : Topo := Topo.v7x

variable {F : FTy → Type} [FloatOps F]

abbrev grid0 : Pipeline.Grid := ⟨1, ![2], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_dev1 (v41 : BitVec 32) (d42 : Dev nD) : Nat :=
  let c0_i32_26 : BitVec 32 := 0#32
  let c2_i32_25 : BitVec 32 := 2#32
  let v50 : BitVec 32 := Scalar.muli v41 c2_i32_25
  let v51 : BitVec 32 := Scalar.addi c0_i32_26 v50
  let c1_i32_20 : BitVec 32 := 1#32
  let v42 : BitVec 32 := Dev.word d42
  let c1_i32_19 : BitVec 32 := 1#32
  let v43 : BitVec 32 := Scalar.divsi v42 c1_i32_19
  let c2_i32 : BitVec 32 := 2#32
  let v44 : BitVec 32 := Scalar.remsi v43 c2_i32
  let v46 : BitVec 32 := Scalar.subi c1_i32_20 v44
  let c1_i32_27 : BitVec 32 := 1#32
  let v52 : BitVec 32 := Scalar.muli v46 c1_i32_27
  let v53 : BitVec 32 := Scalar.addi v51 v52
  v53.toNat

def k0_dev2 (v41 : BitVec 32) (d42 : Dev nD) : Nat :=
  let c0_i32_30 : BitVec 32 := 0#32
  let c1_i32_21 : BitVec 32 := 1#32
  let v47 : BitVec 32 := Scalar.subi c1_i32_21 v41
  let c2_i32_29 : BitVec 32 := 2#32
  let v54 : BitVec 32 := Scalar.muli v47 c2_i32_29
  let v55 : BitVec 32 := Scalar.addi c0_i32_30 v54
  let v42 : BitVec 32 := Dev.word d42
  let c1_i32_19 : BitVec 32 := 1#32
  let v43 : BitVec 32 := Scalar.divsi v42 c1_i32_19
  let c2_i32 : BitVec 32 := 2#32
  let v44 : BitVec 32 := Scalar.remsi v43 c2_i32
  let c1_i32_31 : BitVec 32 := 1#32
  let v56 : BitVec 32 := Scalar.muli v44 c1_i32_31
  let v57 : BitVec 32 := Scalar.addi v55 v56
  v57.toNat
def k0_dev3 (v41 : BitVec 32) (d42 : Dev nD) : Nat :=
  let c0_i32_34 : BitVec 32 := 0#32
  let c1_i32_22 : BitVec 32 := 1#32
  let v48 : BitVec 32 := Scalar.subi c1_i32_22 v41
  let c2_i32_33 : BitVec 32 := 2#32
  let v58 : BitVec 32 := Scalar.muli v48 c2_i32_33
  let v59 : BitVec 32 := Scalar.addi c0_i32_34 v58
  let c1_i32_23 : BitVec 32 := 1#32
  let v42 : BitVec 32 := Dev.word d42
  let c1_i32_19 : BitVec 32 := 1#32
  let v43 : BitVec 32 := Scalar.divsi v42 c1_i32_19
  let c2_i32 : BitVec 32 := 2#32
  let v44 : BitVec 32 := Scalar.remsi v43 c2_i32
  let v49 : BitVec 32 := Scalar.subi c1_i32_23 v44
  let c1_i32_35 : BitVec 32 := 1#32
  let v60 : BitVec 32 := Scalar.muli v49 c1_i32_35
  let v61 : BitVec 32 := Scalar.addi v59 v60
  v61.toNat

def k0_chk1 (i : grid0.Coords) (v41 : BitVec 32) : Prop :=
  (∀ d42 : Dev nD, ∀ (k0_h1 : k0_cond1 i = 1#1), (k0_dev1 v41 d42) < nD) ∧
  (∀ d42 : Dev nD, ∀ (k0_h1 : k0_cond1 i = 1#1), (k0_dev2 v41 d42) < nD) ∧
  (∀ d42 : Dev nD, ∀ (k0_h1 : k0_cond1 i = 1#1), (k0_dev3 v41 d42) < nD)
theorem k0_dev1_lt : ∀ (i : grid0.Coords) (v41 : BitVec 32) (k0_hw1 : k0_chk1 i v41) (d42 : Dev nD), ∀ (k0_h1 : k0_cond1 i = 1#1), (k0_dev1 v41 d42) < nD := fun i v41 k0_hw1 d42 k0_h1 => k0_hw1.1 d42 k0_h1
theorem k0_dev2_lt : ∀ (i : grid0.Coords) (v41 : BitVec 32) (k0_hw1 : k0_chk1 i v41) (d42 : Dev nD), ∀ (k0_h1 : k0_cond1 i = 1#1), (k0_dev2 v41 d42) < nD := fun i v41 k0_hw1 d42 k0_h1 => k0_hw1.2.1 d42 k0_h1
theorem k0_dev3_lt : ∀ (i : grid0.Coords) (v41 : BitVec 32) (k0_hw1 : k0_chk1 i v41) (d42 : Dev nD), ∀ (k0_h1 : k0_cond1 i = 1#1), (k0_dev3 v41 d42) < nD := fun i v41 k0_hw1 d42 k0_h1 => k0_hw1.2.2 d42 k0_h1

def k0_cond2 (i : grid0.Coords) : BitVec 1 :=
  let arg0 : BitVec 32 := BitVec.ofNat 32 (i 0).val
  let c1_i32 : BitVec 32 := 1#32
  let v34 : BitVec 1 := Scalar.cmpi .eq arg0 c1_i32
  let v35 : BitVec 32 := Scalar.extui v34
  let c0_i32_14 : BitVec 32 := 0#32
  let v36 : BitVec 1 := Scalar.cmpi .ne v35 c0_i32_14
  v36

def k0_dev4 (v37 : BitVec 32) (d38 : Dev nD) : Nat :=
  let c0_i32_25 : BitVec 32 := 0#32
  let c2_i32_24 : BitVec 32 := 2#32
  let v46 : BitVec 32 := Scalar.muli v37 c2_i32_24
  let v47 : BitVec 32 := Scalar.addi c0_i32_25 v46
  let c1_i32_17 : BitVec 32 := 1#32
  let v38 : BitVec 32 := Dev.word d38
  let c1_i32_16 : BitVec 32 := 1#32
  let v39 : BitVec 32 := Scalar.divsi v38 c1_i32_16
  let c2_i32 : BitVec 32 := 2#32
  let v40 : BitVec 32 := Scalar.remsi v39 c2_i32
  let v41 : BitVec 32 := Scalar.subi c1_i32_17 v40
  let c1_i32_26 : BitVec 32 := 1#32
  let v48 : BitVec 32 := Scalar.muli v41 c1_i32_26
  let v49 : BitVec 32 := Scalar.addi v47 v48
  v49.toNat

def k0_dev5 (v37 : BitVec 32) (d38 : Dev nD) : Nat :=
  let c0_i32_33 : BitVec 32 := 0#32
  let c1_i32_18 : BitVec 32 := 1#32
  let v42 : BitVec 32 := Scalar.subi c1_i32_18 v37
  let c2_i32_32 : BitVec 32 := 2#32
  let v56 : BitVec 32 := Scalar.muli v42 c2_i32_32
  let v57 : BitVec 32 := Scalar.addi c0_i32_33 v56
  let v38 : BitVec 32 := Dev.word d38
  let c1_i32_16 : BitVec 32 := 1#32
  let v39 : BitVec 32 := Scalar.divsi v38 c1_i32_16
  let c2_i32 : BitVec 32 := 2#32
  let v40 : BitVec 32 := Scalar.remsi v39 c2_i32
  let c1_i32_34 : BitVec 32 := 1#32
  let v58 : BitVec 32 := Scalar.muli v40 c1_i32_34
  let v59 : BitVec 32 := Scalar.addi v57 v58
  v59.toNat
def k0_dev6 (v37 : BitVec 32) (d38 : Dev nD) : Nat :=
  let c0_i32_41 : BitVec 32 := 0#32
  let c1_i32_19 : BitVec 32 := 1#32
  let v43 : BitVec 32 := Scalar.subi c1_i32_19 v37
  let c2_i32_40 : BitVec 32 := 2#32
  let v66 : BitVec 32 := Scalar.muli v43 c2_i32_40
  let v67 : BitVec 32 := Scalar.addi c0_i32_41 v66
  let c1_i32_20 : BitVec 32 := 1#32
  let v38 : BitVec 32 := Dev.word d38
  let c1_i32_16 : BitVec 32 := 1#32
  let v39 : BitVec 32 := Scalar.divsi v38 c1_i32_16
  let c2_i32 : BitVec 32 := 2#32
  let v40 : BitVec 32 := Scalar.remsi v39 c2_i32
  let v44 : BitVec 32 := Scalar.subi c1_i32_20 v40
  let c1_i32_42 : BitVec 32 := 1#32
  let v68 : BitVec 32 := Scalar.muli v44 c1_i32_42
  let v69 : BitVec 32 := Scalar.addi v67 v68
  v69.toNat

def k0_chk2 (i : grid0.Coords) (v37 : BitVec 32) : Prop :=
  (∀ d38 : Dev nD, ∀ (k0_h2 : k0_cond2 i = 1#1), (k0_dev4 v37 d38) < nD) ∧
  (∀ d38 : Dev nD, ∀ (k0_h2 : k0_cond2 i = 1#1), (k0_dev5 v37 d38) < nD) ∧
  (∀ d38 : Dev nD, ∀ (k0_h2 : k0_cond2 i = 1#1), (k0_dev6 v37 d38) < nD)
theorem k0_dev4_lt : ∀ (i : grid0.Coords) (v37 : BitVec 32) (k0_hw2 : k0_chk2 i v37) (d38 : Dev nD), ∀ (k0_h2 : k0_cond2 i = 1#1), (k0_dev4 v37 d38) < nD := fun i v37 k0_hw2 d38 k0_h2 => k0_hw2.1 d38 k0_h2
theorem k0_dev5_lt : ∀ (i : grid0.Coords) (v37 : BitVec 32) (k0_hw2 : k0_chk2 i v37) (d38 : Dev nD), ∀ (k0_h2 : k0_cond2 i = 1#1), (k0_dev5 v37 d38) < nD := fun i v37 k0_hw2 d38 k0_h2 => k0_hw2.2.1 d38 k0_h2
theorem k0_dev6_lt : ∀ (i : grid0.Coords) (v37 : BitVec 32) (k0_hw2 : k0_chk2 i v37) (d38 : Dev nD), ∀ (k0_h2 : k0_cond2 i = 1#1), (k0_dev6 v37 d38) < nD := fun i v37 k0_hw2 d38 k0_h2 => k0_hw2.2.2 d38 k0_h2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Net.lean ====
/-
# The mesh, the prefetched word and the windows' blocks

The four devices of the 2 × 2 mesh are numbered row-major, so that a device's three peers are the numbers that
differ from its own in the low bit, in the high bit and in both. The kernel's prefetched table holds one word, the
device's coordinate along the first axis; with that word known, the devices the kernel names are its three peers and
the blocks its two input windows visit are the two 512-row blocks of that coordinate's half of the rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.Regions
public import Idealize.ShloMosaic.Lib.Rounds.Family
public import Idealize.ShloMosaic.Lib.Tactic

@[expose] public section

noncomputable section

namespace Cert.LnProof

open Cert.KernelIdeal Cert.KernelIdeal.Gen
open Idealize.ShloMosaic
open Idealize.ShloMosaic.TcCoe

variable {F : FTy → Type} [FloatOps F]

/-- The peer of device `c` in slot `s`: the number differing from `c` in the bits of `s + 1`. -/
def peer (s : Fin 3) (c : Dev nD) : Dev nD := ⟨(c.val ^^^ (s.val + 1)) % 4, Nat.mod_lt _ (by decide)⟩

theorem peer_peer (s : Fin 3) (c : Dev nD) : peer s (peer s c) = c := by revert s c; decide
theorem peer_ne (s : Fin 3) (c : Dev nD) : peer s c ≠ c := by revert s c; decide
theorem peer_inj {s s' : Fin 3} {c : Dev nD} (h : peer s c = peer s' c) : s = s' := by revert s s' c; decide

/-- Slot `s`'s pairing, a permutation of the devices. -/
def swap (s : Fin 3) : Dev nD ≃ Dev nD := ⟨peer s, peer s, peer_peer s, peer_peer s⟩

/-- The prefetched word of device `c`: its coordinate along the first mesh axis. -/
def word (c : Dev nD) : BitVec 32 := BitVec.ofNat 32 (c.val / 2 % 2)

/-- The devices the kernel's signals name, at the prefetched word, are the three peers; -/
theorem dev1_eq (c : Dev nD) : k0_dev1 (word c) c = (peer 0 c).val := by revert c; decide
theorem dev2_eq (c : Dev nD) : k0_dev2 (word c) c = (peer 1 c).val := by revert c; decide
theorem dev3_eq (c : Dev nD) : k0_dev3 (word c) c = (peer 2 c).val := by revert c; decide
/-- and so are those its transfers name. -/
theorem dev4_eq (c : Dev nD) : k0_dev4 (word c) c = (peer 0 c).val := by revert c; decide
theorem dev5_eq (c : Dev nD) : k0_dev5 (word c) c = (peer 1 c).val := by revert c; decide
theorem dev6_eq (c : Dev nD) : k0_dev6 (word c) c = (peer 2 c).val := by revert c; decide

/-- The kernel's checks of the devices it computes hold at the prefetched word. -/
theorem chk1 (i : grid0.Coords) (c : Dev nD) : k0_chk1 i (word c) :=
  ⟨fun d _ => by revert d c; decide, fun d _ => by revert d c; decide, fun d _ => by revert d c; decide⟩
theorem chk2 (i : grid0.Coords) (c : Dev nD) : k0_chk2 i (word c) :=
  ⟨fun d _ => by revert d c; decide, fun d _ => by revert d c; decide, fun d _ => by revert d c; decide⟩

/-- The contents of device `c`'s prefetched table. -/
def tab (c : Dev nD) : pre0.Contents (Elt F) := fun | 0 => fun _ => word c | ⟨_ + 1, h⟩ => absurd h (Nat.not_lt.2 (Nat.le_add_left _ _))

/-- The word arithmetic of the input windows' index maps: twice the device's coordinate plus the grid point. -/
theorem row_word (c : Dev nD) (i : Fin 2) :
    (Scalar.addi (Scalar.muli (word c) 2#32) (BitVec.ofNat 32 i.val) : BitVec 32).toNat = 2 * (c.val / 2 % 2) + i.val := by
  revert c i; decide

/-- The block of the rows that both input windows of device `c` visit at grid point `i`. -/
theorem tr0_eq (c : Dev nD) (i : grid0.Coords) :
    cc0_transform_0 inb_S1_S1_0 numel1_S1 (tab (F := F) c) i = ![2 * (c.val / 2 % 2) + (i 0).val, 0] := by
  rw [← row_word c (i 0)]; rfl
theorem tr1_eq (c : Dev nD) (i : grid0.Coords) :
    cc0_transform_1 inb_S1_S1_0 numel1_S1 (tab (F := F) c) i = ![2 * (c.val / 2 % 2) + (i 0).val, 0] := by
  rw [← row_word c (i 0)]; rfl

/-- Those blocks lie inside the array. -/
theorem row_inb (c : Dev nD) (i : grid0.Coords) :
    ∀ a : Fin 2, ((![2 * (c.val / 2 % 2) + (i 0).val, 0] : Fin 2 → Nat) a + 1) * S512x2048.size a ≤ S2048x2048.size a := by
  have h : ∀ (c : Dev nD) (j : Fin 2) (a : Fin 2), ((![2 * (c.val / 2 % 2) + j.val, 0] : Fin 2 → Nat) a + 1) * S512x2048.size a ≤ S2048x2048.size a := by decide
  exact h c (i 0)

/-- The pipeline admits the table's contents. -/
theorem tab_ok (c : Dev nD) : ok0 (tab (F := F) c) := by
  unfold ok0
  exact ⟨fun i => ⟨by rw [tr0_eq]; exact row_inb c i, .inl rfl⟩, fun i => ⟨by rw [tr1_eq]; exact row_inb c i, .inl rfl⟩⟩

/-- The table's contents, admitted by the kernel's pipeline. -/
def adm (c : Dev nD) : (p : Fin 1) → (pcfgs (F := F) p).Adm := fun _ => ⟨tab c, tab_ok c⟩

end Cert.LnProof
-- ==== Proof.Buffers.lean ====
/-
# What the buffers hold, and their pieces

What each device's accumulator holds after each of the two grid points, and the result it ends with; the receive
buffer's three slots, which partition it; the three shares of the accumulator, one per outgoing transfer.
-/
module

public import proofs.«01_k».proof.Proof.Net

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Values -/

/-- The block of the first operand that device `c`'s first window stages at point `t`; -/
def blkA (c : Dev nD) (t : Fin grid0.N) : FVec F S512x2048 .f32 :=
  ((win0 (adm (F := F) c 0) 0).blk t).view.read (Elt F) (m ((c : Thread nD τ).loc main_arg0))
/-- the block of the second operand its second window stages there. -/
def blkB (c : Dev nD) (t : Fin grid0.N) : FVec F S512x2048 .f32 :=
  ((win0 (adm (F := F) c 0) 1).blk t).view.read (Elt F) (m ((c : Thread nD τ).loc main_arg1))

/-- Device `c`'s accumulator after the first grid point; -/
def acc1 (c : Dev nD) : FVec F S2x2048 .f32 := k0_pay3 (blkA m c t0_0) (blkB m c t0_0) k0_pay2
/-- after the second, what it sends its peers. -/
def acc2 (c : Dev nD) : FVec F S2x2048 .f32 := k0_pay3 (blkA m c t0_1) (blkB m c t0_1) (acc1 m c)
/-- Device `c`'s result: its own accumulator and those of its three peers, added in slot order. -/
def result (c : Dev nD) : FVec F S2x2048 .f32 :=
  addf (addf (addf (acc2 m c) (acc2 m (peer 0 c))) (acc2 m (peer 1 c))) (acc2 m (peer 2 c))

/-! ## The accumulator and the receive buffer's slots -/

abbrev accM : Memref sig .tc .vmem S2x2048 .f32 := Memref.whole cc0_scratch0
abbrev commM : Memref sig .tc .vmem S3x2x2048 .f32 := Memref.whole cc0_scratch1

theorem slot_inb (s : Fin 3) : ∀ a, (![s.val, 0, 0] : Fin 3 → Nat) a + S1x2x2048.size a ≤ S3x2x2048.size a := by
  revert s; decide

/-- Slot `s` of the receive buffer as a rectangle of it, -/
abbrev slotR (s : Fin 3) : Rect S3x2x2048 := Rect.unit (s := S3x2x2048) ![s.val, 0, 0] S1x2x2048.size (slot_inb s)
/-- and as the two-dimensional buffer a transfer writes. -/
abbrev slotM (s : Fin 3) : Memref sig .tc .vmem S2x2048 .f32 :=
  (commM.slice (slotR s) (fun _ => rfl)).squeeze S2x2048 squeezes_S1x2x2048_S2x2048

/-- The elements of slot `s`. -/
abbrev slotSet (s : Fin 3) : Finset (cc0_scratch1 : Ref sig .tc).ty.shape.Idx := (slotR s).set
theorem slot_set (s : Fin 3) : (slotM s).view.set = slotSet s :=
  (View.set_reshape ((View.whole cc0_scratch1).slice (slotR s)) _).trans (View.set_slice_whole cc0_scratch1 (slotR s))

/-- Two slots share no element, -/
theorem slot_disjoint {s s' : Fin 3} (h : s ≠ s') : Disjoint (slotSet s) (slotSet s') := by
  refine Rect.unit_disjoint (0 : Fin 3) ?_
  revert s s'; decide

/-- and the three are the whole buffer. -/
theorem slot_cover : Finset.univ.biUnion slotSet = Finset.univ := by
  refine Finset.eq_univ_of_forall fun i => Finset.mem_biUnion.mpr ?_
  refine ⟨i 0, Finset.mem_univ _, ?_⟩
  refine Rect.mem_set_unit.mpr fun a => ?_
  have h1 : ((i 1 : Fin _) : Nat) < 2 := (i 1).isLt
  have h2 : ((i 2 : Fin _) : Nat) < 2048 := (i 2).isLt
  match a with
  | ⟨0, _⟩ => exact ⟨le_refl _, Nat.lt_succ_self _⟩
  | ⟨1, _⟩ => exact ⟨Nat.zero_le _, by simpa using h1⟩
  | ⟨2, _⟩ => exact ⟨Nat.zero_le _, by simpa using h2⟩

/-- A transfer's credit: the units of one slot. -/
abbrev N : ℕ := (slotM 0).view.dmaCredit
theorem N_pos : 0 < N := View.dmaCredit_pos _ (by decide)
theorem credit_eq (s : Fin 3) : (slotM s).view.dmaCredit = N := by
  unfold N; fin_cases s <;> rfl

/-- The share of the accumulator that outgoing transfer `s` reads. -/
def piece : Fin 3 → PosShare TreeShare
  | 0 => fullShare.left
  | 1 => fullShare.right.left
  | 2 => fullShare.right.right

end Cert.LnProof
-- ==== Proof.Protocol.lean ====
/-
# The protocol

Each device signals its three peers' barrier semaphores at the first grid point, handing each the slot of its receive
buffer that this peer is to write; at the second it waits for three signals, sends its accumulator into its slot of
each peer's receive buffer, waits for the three transfers to leave and for the three it receives, and adds them up.

The rounds each semaphore goes through: a barrier semaphore has one round of three duties, duty `s` paid by the peer in
slot `s`; a transfer's two semaphores have one round of one duty. A device owes its peers six dues at launch, which the
levels order: a barrier is waited for while transfers are owed, a transfer while nothing is.
-/
module

public import proofs.«01_k».proof.Proof.Buffers

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The ghost state: the pipeline's rounds and the kernel's own. -/
abbrev UU : Type := Rounds.URounds (GSem nD τ sig) Unit × Rounds.URounds (GSem nD τ sig) (Fin 3)

local notation "𝕄" => MT nD τ sig Unit (Elt F) ℕ UU ℕ

abbrev EP : Emb (Rounds.URounds (GSem nD τ sig) Unit) (MT nD τ sig Unit (Elt F) ℕ UU ℕ) := embL
abbrev ER : Emb (Rounds.URounds (GSem nD τ sig) (Fin 3)) (MT nD τ sig Unit (Elt F) ℕ UU ℕ) := embR

/-! ## Semaphores -/

/-- The semaphores of outgoing transfer `s` and of incoming transfer `s`. -/
def sendQ (s : Fin 3) : DmaSem sig := ⟨5 + s.val, by have := s.isLt; show 5 + s.val < 11; omega⟩
def recvQ (s : Fin 3) : DmaSem sig := ⟨8 + s.val, by have := s.isLt; show 8 + s.val < 11; omega⟩

abbrev barCell (c : Dev nD) : GSem nD τ sig := ((c : Thread nD τ), .reg barrier0)
abbrev sendCell (s : Fin 3) (c : Dev nD) : GSem nD τ sig := ((c : Thread nD τ), .dma (sendQ s))
abbrev recvCell (s : Fin 3) (c : Dev nD) : GSem nD τ sig := ((c : Thread nD τ), .dma (recvQ s))

/-! ## Payloads -/

/-- Slot `s` of device `c`'s receive buffer at contents `f`; -/
def slotPts (s : Fin 3) (c : Dev nD) (f : Buf (Elt F) ((slotM s).view.loc (c : Thread nD τ))) : sProp 𝕄 :=
  (slotM s).view.loc (c : Thread nD τ) ↦[(slotM s).view.set]{fullShare} f
/-- a share of its accumulator at contents `X`. -/
def accPts (c : Dev nD) (q : PosShare TreeShare) (X : FVec F S2x2048 .f32) : sProp 𝕄 :=
  (accM : Memref sig .tc .vmem S2x2048 .f32).view.loc (c : Thread nD τ) ↦[(accM : Memref sig .tc .vmem S2x2048 .f32).view.set]{q} X

instance slotPts_storable (s : Fin 3) (c : Dev nD) (f) : BI.Storable (upEmb : UEmb _ 𝕄) (slotPts (F := F) s c f) := by unfold slotPts; infer_instance
instance accPts_storable (c : Dev nD) (q) (X) : BI.Storable (upEmb : UEmb _ 𝕄) (accPts (F := F) c q X) := by unfold accPts; infer_instance

theorem slotPts_eq (s : Fin 3) (c : Dev nD) (f : Buf (Elt F) ((c : Thread nD τ).loc cc0_scratch1)) :
    slotPts s c f = (((c : Thread nD τ).loc cc0_scratch1) ↦[slotSet s]{fullShare} f : sProp 𝕄) := by
  unfold slotPts; rw [slot_set]
theorem accPts_eq (c : Dev nD) (q) (X : FVec F S2x2048 .f32) :
    accPts c q X = (((c : Thread nD τ).loc cc0_scratch0) ↦{q} X : sProp 𝕄) := by
  unfold accPts; rw [show (accM : Memref sig .tc .vmem S2x2048 .f32).view.set = Finset.univ from View.set_whole _]

/-- What the signal of the peer in slot `s` hands device `c`: the slot of the peer's receive buffer that `c` is to
    write, and that the peer's receive semaphore is in use. -/
def barPay (c : Dev nD) (s : Fin 3) : sProp 𝕄 := iprop((∃ f, slotPts s (peer s c) f) ∗ reached ER (recvCell s (peer s c)) 0)
/-- What outgoing transfer `s` hands back: the share of the accumulator it read. -/
def sendPay (c : Dev nD) (s : Fin 3) : sProp 𝕄 := accPts c (piece s) (acc2 m c)
/-- What incoming transfer `s` hands over: slot `s`, holding the peer's accumulator. -/
def recvPay (c : Dev nD) (s : Fin 3) : sProp 𝕄 := owns (c : Thread nD τ) (slotM s) fullShare (acc2 m (peer s c))

/-! ## The schedule -/

/-- The duties of a TensorCore's semaphore. -/
def dut : SemLoc sig → Finset (Fin 3)
  | .reg _ => Finset.univ
  | .dma q => if 5 ≤ q.val then {0} else ∅
/-- The units each pays. -/
def amt : SemLoc sig → ℕ
  | .reg _ => 1
  | .dma _ => N
/-- What each hands over. -/
def pay (c : Dev nD) : SemLoc sig → Fin 3 → sProp 𝕄
  | .reg _, d => barPay c d
  | .dma q, _ =>
    if h : 8 ≤ q.val then recvPay m c ⟨q.val - 8, by have : q.val < 11 := q.isLt; omega⟩
    else if h' : 5 ≤ q.val then sendPay m c ⟨q.val - 5, by omega⟩
    else iprop(emp)

def Rd : Rounds.Schedule (GSem nD τ sig) (Fin 3) 𝕄 where
  duties g r := if r = 0 ∧ g.1.2 = .tc then dut g.2 else ∅
  amount g _ _ := amt g.2
  payload g _ d := pay m g.1.1 g.2 d
  amount_pos g _ _ _ := by
    show 0 < amt g.2
    unfold amt; split
    · exact Nat.one_pos
    · exact N_pos

instance Rd_payload_storable (g : GSem nD τ sig) (r : ℕ) (d : Fin 3) : BI.Storable (upEmb : UEmb _ 𝕄) ((Rd (F := F) m).payload g r d) := by
  show BI.Storable upEmb (pay m g.1.1 g.2 d)
  unfold pay
  split
  · unfold barPay; infer_instance
  · split
    · unfold recvPay; infer_instance
    · split
      · unfold sendPay; infer_instance
      · infer_instance

theorem duties_tc (c : Dev nD) (sm : SemLoc sig) : (Rd (F := F) m).duties ((c : Thread nD τ), sm) 0 = dut sm := by
  dsimp only [Rd]; exact if_pos ⟨rfl, rfl⟩
theorem duties_bar (c : Dev nD) : (Rd (F := F) m).duties (barCell c) 0 = Finset.univ := duties_tc m c _
theorem duties_send (s : Fin 3) (c : Dev nD) : (Rd (F := F) m).duties (sendCell s c) 0 = {0} :=
  (duties_tc m c _).trans (if_pos (Nat.le_add_right 5 s.val))
theorem duties_recv (s : Fin 3) (c : Dev nD) : (Rd (F := F) m).duties (recvCell s c) 0 = {0} :=
  (duties_tc m c _).trans (if_pos (by show 5 ≤ 8 + s.val; omega))
theorem duties_later (g : GSem nD τ sig) : ∀ r, 1 ≤ r → (Rd (F := F) m).duties g r = ∅ :=
  fun r hr => if_neg fun h => by rw [h.1] at hr; exact absurd hr (by decide)

theorem expect_bar (c : Dev nD) : (Rd (F := F) m).expect (barCell c) 0 = 3 := by
  unfold Schedule.expect Schedule.amountOf; rw [duties_bar]; rfl
theorem expect_send (s : Fin 3) (c : Dev nD) : (Rd (F := F) m).expect (sendCell s c) 0 = N := by
  unfold Schedule.expect Schedule.amountOf; rw [duties_send]; exact Finset.sum_singleton _ _
theorem expect_recv (s : Fin 3) (c : Dev nD) : (Rd (F := F) m).expect (recvCell s c) 0 = N := by
  unfold Schedule.expect Schedule.amountOf; rw [duties_recv]; exact Finset.sum_singleton _ _

theorem payload_bar (c : Dev nD) (r : ℕ) (d : Fin 3) : (Rd (F := F) m).payload (barCell c) r d = barPay c d := rfl
theorem payload_send (s : Fin 3) (c : Dev nD) (r : ℕ) (d : Fin 3) : (Rd (F := F) m).payload (sendCell s c) r d = sendPay m c s := by
  show pay m c (.dma (sendQ s)) d = _
  unfold pay
  have h : ¬ 8 ≤ (sendQ s).val := by have := s.isLt; show ¬ 8 ≤ 5 + s.val; omega
  have h' : 5 ≤ (sendQ s).val := Nat.le_add_right 5 s.val
  dsimp only
  rw [dif_neg h, dif_pos h']
  exact congrArg _ (Fin.ext (by show 5 + s.val - 5 = s.val; omega))
theorem payload_recv (s : Fin 3) (c : Dev nD) (r : ℕ) (d : Fin 3) : (Rd (F := F) m).payload (recvCell s c) r d = recvPay m c s := by
  show pay m c (.dma (recvQ s)) d = _
  unfold pay
  have h : 8 ≤ (recvQ s).val := Nat.le_add_right 8 s.val
  dsimp only
  rw [dif_pos h]
  exact congrArg _ (Fin.ext (by show 8 + s.val - 8 = s.val; omega))

/-- The whole of a barrier's round: three slots to write. -/
theorem rest_bar (c : Dev nD) : bigSep ((Rd (F := F) m).duties (barCell c) 0 \ ∅) (fun d => (Rd (F := F) m).payload (barCell c) 0 d)
    = iprop(barPay c 0 ∗ barPay c 1 ∗ barPay c 2) := by
  rw [Finset.sdiff_empty, duties_bar]
  exact bigSep_univ_eq_bigSepL [0, 1, 2] (by decide) (by decide) _
theorem rest_send (s : Fin 3) (c : Dev nD) : bigSep ((Rd (F := F) m).duties (sendCell s c) 0 \ ∅) (fun d => (Rd (F := F) m).payload (sendCell s c) 0 d)
    = sendPay m c s := by
  rw [Finset.sdiff_empty, duties_send, bigSep_singleton, payload_send]
theorem rest_recv (s : Fin 3) (c : Dev nD) : bigSep ((Rd (F := F) m).duties (recvCell s c) 0 \ ∅) (fun d => (Rd (F := F) m).payload (recvCell s c) 0 d)
    = recvPay m c s := by
  rw [Finset.sdiff_empty, duties_recv, bigSep_singleton, payload_recv]

/-! ## Dues and levels -/

/-- What device `c` still owes: after `3 - k` of its transfers, -/
def owR (c : Dev nD) : ℕ → CellTallies nD τ sig Unit
  | 0 => 0
  | 1 => tallyAt (recvCell 2 (peer 2 c)) () N
  | 2 => tallyAt (recvCell 2 (peer 2 c)) () N + tallyAt (recvCell 1 (peer 1 c)) () N
  | _ => tallyAt (recvCell 2 (peer 2 c)) () N + tallyAt (recvCell 1 (peer 1 c)) () N + tallyAt (recvCell 0 (peer 0 c)) () N
/-- and with all transfers to make, after `3 - k` of its signals. -/
def owB (c : Dev nD) : ℕ → CellTallies nD τ sig Unit
  | 0 => owR c 3
  | 1 => owR c 3 + tallyAt (barCell (peer 2 c)) () 1
  | 2 => owR c 3 + tallyAt (barCell (peer 2 c)) () 1 + tallyAt (barCell (peer 1 c)) () 1
  | _ => owR c 3 + tallyAt (barCell (peer 2 c)) () 1 + tallyAt (barCell (peer 1 c)) () 1 + tallyAt (barCell (peer 0 c)) () 1
/-- What a device owes at launch. -/
abbrev O₀ (c : Dev nD) : CellTallies nD τ sig Unit := owB c 3

def L (g : GSem nD τ sig) : Finset Unit := if g.1.2 = .tc then {()} else ∅
def lvl : SemLoc sig → ℕ
  | .reg _ => 1
  | .dma q => if 8 ≤ q.val then 2 else 0
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl
theorem lvl_recv (s : Fin 3) : lvl (.dma (recvQ s)) = 2 := if_pos (Nat.le_add_right 8 s.val)

theorem tally_pos {g g' : GSem nD τ sig} {u : Unit} {k : ℕ} (h : 0 < tallyAt (Ix := Unit) g' () k g u) : g = g' := by
  rw [tallyAt_apply] at h
  by_contra hn
  rw [if_neg fun h' => hn h'.1] at h
  exact Nat.lt_irrefl 0 h
theorem add_pos_or {A B : CellTallies nD τ sig Unit} {g : GSem nD τ sig} {u : Unit} (h : 0 < (A + B) g u) : 0 < A g u ∨ 0 < B g u := by
  rw [Pi.add_apply, Finsupp.add_apply] at h; omega

/-- A transfer is owed at a TensorCore's cell of the top level; -/
theorem owR_pos {c : Dev nD} {k : ℕ} {g : GSem nD τ sig} {u : Unit} (h : 0 < owR c k g u) : g.1.2 = .tc ∧ lvl g.2 = 2 := by
  have h2 : ∀ s, 0 < tallyAt (Ix := Unit) (recvCell s (peer s c)) () N g u → g.1.2 = .tc ∧ lvl g.2 = 2 := fun s h => by
    rw [tally_pos h]; exact ⟨rfl, lvl_recv s⟩
  unfold owR at h
  split at h
  · exact absurd h (Nat.lt_irrefl 0)
  · exact h2 _ h
  · rcases add_pos_or h with h | h <;> exact h2 _ h
  · rcases add_pos_or h with h | h
    · rcases add_pos_or h with h | h <;> exact h2 _ h
    · exact h2 _ h
/-- and everything owed at a TensorCore's cell above the bottom level. -/
theorem owB_pos {c : Dev nD} {k : ℕ} {g : GSem nD τ sig} {u : Unit} (h : 0 < owB c k g u) : g.1.2 = .tc ∧ 0 < lvl g.2 := by
  have h1 : ∀ d, 0 < tallyAt (Ix := Unit) (barCell d) () 1 g u → g.1.2 = .tc ∧ 0 < lvl g.2 := fun d h => by
    rw [tally_pos h]; exact ⟨rfl, Nat.one_pos⟩
  have h2 : 0 < owR c 3 g u → g.1.2 = .tc ∧ 0 < lvl g.2 := fun h => ⟨(owR_pos h).1, by rw [(owR_pos h).2]; exact Nat.two_pos⟩
  unfold owB at h
  split at h
  · exact h2 h
  · rcases add_pos_or h with h | h
    · exact h2 h
    · exact h1 _ h
  · rcases add_pos_or h with h | h
    · rcases add_pos_or h with h | h
      · exact h2 h
      · exact h1 _ h
    · exact h1 _ h
  · rcases add_pos_or h with h | h
    · rcases add_pos_or h with h | h
      · rcases add_pos_or h with h | h
        · exact h2 h
        · exact h1 _ h
      · exact h1 _ h
    · exact h1 _ h

theorem mem_L {g : GSem nD τ sig} {u : Unit} (h : g.1.2 = .tc) : u ∈ L g := by
  unfold L; rw [if_pos h]; exact Finset.mem_singleton_self _

/-- The barrier may be waited for while transfers are owed; -/
theorem mayWait_bar (c : Dev nD) (k : ℕ) : (levAts L lv : sProp 𝕄) ⊢ MayWait (c : Thread nD τ) (.reg barrier0) () (owR c k) :=
  Pipeline.mayWait_of_levAts (mem_L rfl) fun g u h => ⟨mem_L (owR_pos h).1, by
    show 1 < lvl g.2; rw [(owR_pos h).2]; decide⟩
/-- a staging transfer whatever is owed. -/
theorem mayWait_stage (c : Dev nD) (q : DmaSem sig) (hq : ¬ 8 ≤ q.val) (O : CellTallies nD τ sig Unit)
    (hO : ∀ g u, 0 < O g u → g.1.2 = .tc ∧ 0 < lvl g.2) : (levAts L lv : sProp 𝕄) ⊢ MayWait (c : Thread nD τ) (.dma q) () O :=
  Pipeline.mayWait_of_levAts (mem_L rfl) fun g u h => ⟨mem_L (hO g u h).1, by
    show (if 8 ≤ q.val then 2 else 0) < lvl g.2; rw [if_neg hq]; exact (hO g u h).2⟩

end Cert.LnProof
-- ==== Proof.Steps.lean ====
/-
# The protocol's steps

One lemma per kind of step a device takes on a semaphore: a signal to a peer, a transfer to a peer, the wait for the
three signals, the wait for an outgoing transfer, the wait for an incoming one.
-/
module

public import proofs.«01_k».proof.Proof.Protocol

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

abbrev 𝒱₀ : Variants := Variants.none

/-! ## The cells and the records of them -/

/-- The kernel's own six scoped semaphores: three for its outgoing transfers, three for the incoming. -/
def osem (k : Fin 6) : SemLoc sig := .dma ⟨5 + k.val, by have := k.isLt; show 5 + k.val < 11; omega⟩

theorem osem_inj : Function.Injective osem := fun a b h => by
  unfold osem at h
  have := congrArg Fin.val (SemLoc.dma.inj h)
  exact Fin.ext (by simpa using this)

theorem barCell_inj : Function.Injective barCell := fun a b h => congrArg (fun g : GSem nD τ sig => g.1.1) h
def ownCell (ck : Dev nD × Fin 6) : GSem nD τ sig := ((ck.1 : Thread nD τ), osem ck.2)
theorem ownCell_inj : Function.Injective ownCell := fun a b h =>
  Prod.ext (congrArg (fun g : GSem nD τ sig => g.1.1) h) (osem_inj (congrArg (fun g : GSem nD τ sig => g.2) h))

/-- The barrier cells, in use from the launch on, -/
def barCells : Finset (GSem nD τ sig) := Finset.univ.map ⟨barCell, barCell_inj⟩
/-- and the transfers' cells, opened as the kernel's region is entered. -/
def ownCells : Finset (GSem nD τ sig) := Finset.univ.map ⟨ownCell, ownCell_inj⟩

theorem bar_mem (c : Dev nD) : barCell c ∈ barCells := Finset.mem_map_of_mem _ (Finset.mem_univ c)
theorem own_mem (ck : Dev nD × Fin 6) : ownCell ck ∈ ownCells := Finset.mem_map_of_mem _ (Finset.mem_univ ck)
theorem send_mem (s : Fin 3) (c : Dev nD) : sendCell s c ∈ ownCells :=
  own_mem (c, ⟨s.val, by have := s.isLt; omega⟩)
theorem recv_mem (s : Fin 3) (c : Dev nD) : recvCell s c ∈ ownCells := by
  have h : recvCell s c = ownCell (c, ⟨3 + s.val, by have := s.isLt; omega⟩) := by
    unfold ownCell osem
    refine Prod.ext rfl (congrArg SemLoc.dma (Fin.ext ?_))
    show 8 + s.val = 5 + (3 + s.val); omega
  rw [h]; exact own_mem _

theorem cells_disjoint : Disjoint barCells ownCells := by
  refine Finset.disjoint_left.mpr fun g hb ho => ?_
  obtain ⟨c, _, rfl⟩ := Finset.mem_map.mp hb
  obtain ⟨ck, _, h⟩ := Finset.mem_map.mp ho
  have h' : osem ck.2 = .reg barrier0 := congrArg (fun g : GSem nD τ sig => g.2) h
  unfold osem at h'; cases h'

/-- What every device knows: the invariant of every cell, and that every barrier's round 0 is open. -/
def recs (K : GSem nD τ sig → ℕ) : sProp 𝕄 :=
  iprop(bigSep (barCells ∪ ownCells) (fun g => cellInv ER (Rd m) (K g) g) ∗ bigSep barCells (fun g => reached ER g 0))

instance recs_persistent (K : GSem nD τ sig → ℕ) : BI.Persistent (recs m K) := by unfold recs; infer_instance

variable (K : GSem nD τ sig → ℕ)

theorem inv_at {g : GSem nD τ sig} (h : g ∈ barCells ∪ ownCells) : recs m K ⊢ cellInv ER (Rd m) (K g) g := by
  unfold recs; exact sep_elim_left.trans (BI.bigSep_elim h)
theorem inv_bar (c : Dev nD) : recs m K ⊢ cellInv ER (Rd m) (K (barCell c)) (barCell c) :=
  inv_at m K (Finset.mem_union_left _ (bar_mem c))
theorem inv_send (s : Fin 3) (c : Dev nD) : recs m K ⊢ cellInv ER (Rd m) (K (sendCell s c)) (sendCell s c) :=
  inv_at m K (Finset.mem_union_right _ (send_mem s c))
theorem inv_recv (s : Fin 3) (c : Dev nD) : recs m K ⊢ cellInv ER (Rd m) (K (recvCell s c)) (recvCell s c) :=
  inv_at m K (Finset.mem_union_right _ (recv_mem s c))
theorem reached_bar (c : Dev nD) : recs m K ⊢ reached ER (barCell c) 0 := by
  unfold recs; exact sep_elim_right.trans (BI.bigSep_elim (bar_mem c))

/-! ## The steps -/

section Step

/-- What running `p` on device `c` needs, to end in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to the peer in slot `s`: the slot of this device's receive buffer that the peer is to write goes with it. -/
theorem wp_signal_peer {α : Type} {Q : α → sProp 𝕄} {k : PUnit → Prog (TpuEff nD τ sig (Elt F) Λ₀ .tc) α}
    (s : Fin 3) (c n : Dev nD) (hn : n = peer s c) {q : Sem sig} (hq : q = barrier0) {a : ℕ} (ha : 1 = a)
    {Ob : CellTallies nD τ sig Unit} (O : CellTallies nD τ sig Unit) (hO : Ob = O + tallyAt (barCell (peer s c)) () 1) (W : Waits sig Unit) :
    iprop(recs m K ∗ owes (c : Thread nD τ) Ob W ∗ dutyTok ER (barCell (peer s c)) 0 s
        ∗ (∃ f, slotPts s c f) ∗ reached ER (recvCell s c) 0)
      ⊢ iprop((owes (c : Thread nD τ) O W -∗ runs c (k ⟨⟩) Q)
          -∗ runs c (.op (.semSignal (n : Thread nD τ) q a) k) Q) := by
  subst hn hq ha
  iintro ⟨#HK, HO, Ht, Hs, Hr⟩
  iapply (Rounds.wp_signal 𝒱₀ ER (Rd m) (c : Thread nD τ) none (dst := (peer s c : Thread nD τ)) (κ := K (barCell (peer s c)))
      (r := 0) (d := s) (by rw [duties_bar]; exact Finset.mem_univ s) rfl () O hO)
  isplitr; · iapply (inv_bar m K (peer s c)); iexact HK
  isplitl [HO]; · iexact HO
  isplitl [Ht]; · iexact Ht
  isplitl [Hs Hr]
  · rw [payload_bar]; unfold barPay; rw [peer_peer]
    isplitl [Hs]; · iexact Hs
    iexact Hr
  · iapply (reached_bar m K (peer s c)); iexact HK

/-- The wait for the three peers' signals: the slots this device is to write come with them. -/
theorem wp_wait_bar {α : Type} {Q : α → sProp 𝕄} {k : PUnit → Prog (TpuEff nD τ sig (Elt F) Λ₀ .tc) α}
    (c : Dev nD) (n : ℕ) {q : Sem sig} (hq : q = barrier0) {a : ℕ} (ha : 3 = a) (W : Waits sig Unit) :
    iprop(recs m K ∗ cred (tallyAt (barCell c) () 3) ∗ owes (c : Thread nD τ) (owR c n) W ∗ levAts L lv ∗ atPos ER (barCell c) 0 ∅ 0)
      ⊢ iprop(((owes (c : Thread nD τ) (owR c n) (insert (SemLoc.reg barrier0, ()) W) ∗ atPos ER (barCell c) 1 ∅ 0
              ∗ barPay c 0 ∗ barPay c 1 ∗ barPay c 2)
            -∗ runs c (k ⟨⟩) Q)
          -∗ runs c (.op (.semWait q a) k) Q) := by
  subst hq ha
  iintro ⟨#HK, Hc, HO, #Hl, Ha⟩ Hk
  iapply (Rounds.wp_wait_rest_token 𝒱₀ ER (Rd m) (c : Thread nD τ) none (κ := K (barCell c))
      (wpE_semWait_eq 𝒱₀ (c : Thread nD τ) none Set.univ) (Set.mem_univ _) () (O := owR c n) (W := W) (R := 0) (m := 0) (T := ∅)
      (by rw [expect_bar])) $$ [Hc HO Ha]
  · isplitr; · iapply (inv_bar m K c); iexact HK
    isplitl [Hc]; · iexact Hc
    isplitl [HO]; · iexact HO
    isplitr; · iapply (mayWait_bar c n); iexact Hl
    iexact Ha
  iintro ⟨HO, Ha, -, Hp⟩
  iapply Hk
  isplitl [HO]; · iexact HO
  isplitl [Ha]; · iexact Ha
  ihave Hp' := (Entails.of_eq (rest_bar m c)) $$ Hp
  iexact Hp'

/-- A transfer to the peer in slot `s`, of the accumulator into the slot the peer's signal handed over. -/
theorem wp_send_peer {α : Type} {Q : α → sProp 𝕄} {k : PUnit → Prog (TpuEff nD τ sig (Elt F) Λ₀ .tc) α}
    (s : Fin 3) (c n : Dev nD) (hn : n = peer s c)
    {dst : Memref sig (Dev.tc n : Thread nD τ).2.kind .vmem S2x2048 .f32} (hd : dst = slotM s) {sS sR : DmaSem sig} (hS : sS = sendQ s) (hR : sR = recvQ s)
    {hsc : dst.view.ref.isScScratch = false} {hsrc : (accM : Memref sig .tc .vmem S2x2048 .f32).view.WordExact} {hdst : dst.view.WordExact}
    {hsem : DmaTarget.Typed .vmem (.dma sR) (.remote (Dev.tc n : Thread nD τ) dst (.dma sS) hsc)}
    {Ob : CellTallies nD τ sig Unit} (O : CellTallies nD τ sig Unit) (hO : Ob = O + tallyAt (recvCell s (peer s c)) () N) (W : Waits sig Unit) :
    iprop(recs m K ∗ accPts c (piece s) (acc2 m c) ∗ barPay c s ∗ owes (c : Thread nD τ) Ob W
        ∗ dutyTok ER (sendCell s c) 0 0 ∗ reached ER (sendCell s c) 0 ∗ dutyTok ER (recvCell s (peer s c)) 0 0)
      ⊢ iprop(((cred (tallyAt (sendCell s c) () N) ∗ owes (c : Thread nD τ) O W)
            -∗ runs c (k ⟨⟩) Q)
          -∗ runs c
              (.op (.enqueueDma accM (.remote (Dev.tc n : Thread nD τ) dst (.dma sS) hsc) (.dma sR) hsrc hdst hsem) k) Q) := by
  subst hn hS hR
  subst hd
  unfold barPay
  iintro ⟨#HK, Ha, ⟨⟨%f, Hs⟩, #Hr⟩, HO, Ht, #Hrs, Htr⟩
  unfold accPts slotPts
  iapply (Rounds.wp_send_pointsTo 𝒱₀ ER (Rd m) (c : Thread nD τ) none (κ₁ := K (sendCell s c)) (κ₂ := K (recvCell s (peer s c)))
    (r₁ := 0) (r₂ := 0) (d₁ := 0) (d₂ := 0) (fd := f)
    (by rw [duties_send]; exact Finset.mem_singleton_self _) (by rw [duties_recv]; exact Finset.mem_singleton_self _)
    () () N (by rw [View.amount_dma, credit_eq s]) rfl rfl O hO (W := W)
    (by rw [payload_send]; unfold sendPay accPts; exact BI.Entails.refl _)
    (by
      rw [payload_recv]; unfold recvPay; rw [peer_peer]
      refine (owns_intro (peer s c : Thread nD τ) (slotM s) fullShare _).trans (Entails.of_eq (congrArg _ ?_))
      exact (View.read_write_univ _ _).trans (View.read_whole _ _)))
  isplitr; · iapply (inv_send m K s c); iexact HK
  isplitr; · iapply (inv_recv m K s (peer s c)); iexact HK
  isplitl [Ha]; · iexact Ha
  isplitl [Hs]; · iexact Hs
  isplitl [HO]; · iexact HO
  isplitl [Ht]; · iexact Ht
  isplitr; · iexact Hrs
  isplitl [Htr]; · iexact Htr
  iexact Hr

/-- The wait for outgoing transfer `s`: its share of the accumulator comes back. -/
theorem wp_wait_send {α : Type} {Q : α → sProp 𝕄} {k : PUnit → Prog (TpuEff nD τ sig (Elt F) Λ₀ .tc) α}
    (s : Fin 3) (c : Dev nD) {w : TpuEff nD τ sig (Elt F) Λ₀ .tc PUnit} {q : DmaSem sig} (hq : q = sendQ s) {a : ℕ} (ha : N = a)
    (hw : ∀ Kt : PUnit → sProp 𝕄, wpE (defs₀ (F := F)) 𝒱₀ (c : Thread nD τ) none Set.univ w Kt = waitSpec (c : Thread nD τ) Set.univ (.dma q) a Kt)
    (W : Waits sig Unit) :
    iprop(recs m K ∗ cred (tallyAt (sendCell s c) () N) ∗ owes (c : Thread nD τ) 0 W ∗ atPos ER (sendCell s c) 0 ∅ 0)
      ⊢ iprop(((owes (c : Thread nD τ) 0 (insert (SemLoc.dma (sendQ s), ()) W) ∗ atPos ER (sendCell s c) 1 ∅ 0 ∗ accPts c (piece s) (acc2 m c))
            -∗ runs c (k ⟨⟩) Q)
          -∗ runs c (.op w k) Q) := by
  subst hq ha
  iintro ⟨#HK, Hc, HO, Ha⟩ Hk
  iapply (Rounds.wp_wait_rest_token 𝒱₀ ER (Rd m) (c : Thread nD τ) none (κ := K (sendCell s c)) hw (Set.mem_univ _) ()
      (O := 0) (W := W) (R := 0) (m := 0) (T := ∅) (by rw [Nat.zero_add, expect_send])) $$ [Hc HO Ha]
  · isplitr; · iapply (inv_send m K s c); iexact HK
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  ihave Hp' := (Entails.of_eq ((rest_send m s c).trans (show sendPay m c s = accPts c (piece s) (acc2 m c) from rfl))) $$ Hp
  iexact Hp'

/-- The wait for incoming transfer `s`: slot `s` comes with it, holding the peer's accumulator. -/
theorem wp_wait_recv {α : Type} {Q : α → sProp 𝕄} {k : PUnit → Prog (TpuEff nD τ sig (Elt F) Λ₀ .tc) α}
    (s : Fin 3) (c : Dev nD) {w : TpuEff nD τ sig (Elt F) Λ₀ .tc PUnit} {q : DmaSem sig} (hq : q = recvQ s) {a : ℕ} (ha : N = a)
    (hw : ∀ Kt : PUnit → sProp 𝕄, wpE (defs₀ (F := F)) 𝒱₀ (c : Thread nD τ) none Set.univ w Kt = waitSpec (c : Thread nD τ) Set.univ (.dma q) a Kt)
    (W : Waits sig Unit) :
    iprop(recs m K ∗ cred (tallyAt (recvCell s c) () N) ∗ owes (c : Thread nD τ) 0 W ∗ atPos ER (recvCell s c) 0 ∅ 0)
      ⊢ iprop(((owes (c : Thread nD τ) 0 (insert (SemLoc.dma (recvQ s), ()) W) ∗ atPos ER (recvCell s c) 1 ∅ 0
              ∗ owns (c : Thread nD τ) (slotM s) fullShare (acc2 m (peer s c)))
            -∗ runs c (k ⟨⟩) Q)
          -∗ runs c (.op w k) Q) := by
  subst hq ha
  iintro ⟨#HK, Hc, HO, Ha⟩ Hk
  iapply (Rounds.wp_wait_rest_token 𝒱₀ ER (Rd m) (c : Thread nD τ) none (κ := K (recvCell s c)) hw (Set.mem_univ _) ()
      (O := 0) (W := W) (R := 0) (m := 0) (T := ∅) (by rw [Nat.zero_add, expect_recv])) $$ [Hc HO Ha]
  · isplitr; · iapply (inv_recv m K s c); iexact HK
    isplitl [Hc]; · iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  ihave Hp' := (Entails.of_eq ((rest_recv m s c).trans (show recvPay m c s = owns (c : Thread nD τ) (slotM s) fullShare (acc2 m (peer s c)) from rfl))) $$ Hp
  iexact Hp'

end Step

end Cert.LnProof
-- ==== Proof.Step0.lean ====
/-
# The kernel at the first grid point

The first grid point clears the accumulator, signals the three peers (with each signal goes the slot of this
device's receive buffer that peer will write), and adds the point's block.
-/
module

public import proofs.«01_k».proof.Proof.Steps

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Whole-buffer reads and writes -/

theorem hz : (![0, 0] : Fin 2 → Nat) = fun _ => 0 := funext fun a => by fin_cases a <;> rfl
theorem hz1 : (![0] : Fin 1 → Nat) = fun _ => 0 := funext fun a => by fin_cases a; rfl

/-- The whole accumulator as a rectangle of it. -/
abbrev accR : Rect S2x2048 := Rect.unit (s := S2x2048) ![0, 0] S2x2048.size inb_S2x2048_S2x2048_0_0

/-- A conjunction over the three slots. -/
abbrev tri (Φ : Fin 3 → sProp 𝕄) : sProp 𝕄 := iprop(Φ 0 ∗ Φ 1 ∗ Φ 2)

/-- The prefetched table on device `c`. -/
def tabPts (c : Dev nD) : sProp 𝕄 := ((c : Thread nD τ).loc main_v5) ↦{fullShare} (fun _ => word c : (main_v5 : Ref sig .tc).ty.Contents (Elt F))
/-- Buffer `b` of device `c` at contents `X`. -/
abbrev at_ (c : Dev nD) (b : Ref sig .tc) (X : b.ty.Contents (Elt F)) : sProp 𝕄 := ((c : Thread nD τ).loc b) ↦{fullShare} X

/-- A load whose value is known. -/
theorem wp_load_val {α : Type} {Q : α → sProp 𝕄} (c : Dev nD) {cs : CoreSpace} {sh : Shape} {e : EltTy} {mm : Memref sig (c : Thread nD τ).2.kind cs sh e}
    {r : LoadRect sh} {hl : mm.view.LoadsAt r} {k : (r.shape.Idx → Elt F e) → Prog (TpuEff nD τ sig (Elt F) Λ₀ .tc) α}
    {S : Finset (Idx (mm.view.loc (c : Thread nD τ)))} {q : PosShare TreeShare} {f : Buf (Elt F) (mm.view.loc (c : Thread nD τ))} {v : r.shape.Idx → Elt F e}
    (hS : mm.view.setOn r.set ⊆ S) (hv : mm.view.readAt (Elt F) r f = v) :
    (mm.view.loc (c : Thread nD τ) ↦[S]{q} f : sProp 𝕄)
      ⊢ iprop(((mm.view.loc (c : Thread nD τ) ↦[S]{q} f) -∗ runs c (k v) Q) -∗ runs c (.op (.load mm r hl) k) Q) := by
  subst hv; exact wp_load 𝒱₀ (c : Thread nD τ) none Set.univ hS

/-- A store that leaves known contents. -/
theorem wp_store_val {α : Type} {Q : α → sProp 𝕄} (c : Dev nD) {cs : CoreSpace} {sh : Shape} {e : EltTy} {mm : Memref sig (c : Thread nD τ).2.kind cs sh e}
    {r : Rect sh} {w : r.shape.Idx → Elt F e} {Mk : Finset r.shape.Idx} {hx : (mm.access r).Stores Mk} {hm : Mk = Finset.univ ∨ ∀ a, r.stride a = 1}
    {k : PUnit → Prog (TpuEff nD τ sig (Elt F) Λ₀ .tc) α}
    {f g : Buf (Elt F) ((mm.access r).loc (c : Thread nD τ))} (hg : (mm.access r).write (Elt F) f w Mk = g) :
    ((mm.access r).loc (c : Thread nD τ) ↦{fullShare} f : sProp 𝕄)
      ⊢ iprop((((mm.access r).loc (c : Thread nD τ) ↦{fullShare} g) -∗ runs c (k ⟨⟩) Q) -∗ runs c (.op (.store mm r w Mk hx hm) k) Q) := by
  subst hg; exact wp_store 𝒱₀ (c : Thread nD τ) none Set.univ (Finset.subset_univ _)

/-- The whole receive buffer is its three slots. -/
theorem comm_split (c : Dev nD) (f : Buf (Elt F) ((c : Thread nD τ).loc cc0_scratch1)) :
    (((c : Thread nD τ).loc cc0_scratch1) ↦{fullShare} f : sProp 𝕄) ⊢ iprop((∃ f, slotPts 0 c f) ∗ (∃ f, slotPts 1 c f) ∗ (∃ f, slotPts 2 c f)) := by
  have h : (((c : Thread nD τ).loc cc0_scratch1) ↦{fullShare} f : sProp 𝕄) = bigSep Finset.univ fun s : Fin 3 => slotPts s c f := by
    rw [← slot_cover]
    exact (pointsTo_biUnion (ℓ := (c : Thread nD τ).loc cc0_scratch1) Finset.univ slotSet (fun _ _ _ _ hne => slot_disjoint hne)).trans
      (BI.bigSep_congr fun s _ => (slotPts_eq s c f).symm)
  rw [h, bigSep_univ_eq_bigSepL [(0 : Fin 3), 1, 2] (by decide) (by decide)]
  show iprop(slotPts 0 c f ∗ slotPts 1 c f ∗ slotPts 2 c f) ⊢ _
  iintro ⟨H0, H1, H2⟩
  isplitl [H0]; · iexists f; iexact H0
  isplitl [H1]; · iexists f; iexact H1
  iexists f; iexact H2

/-- What the first grid point spends: the three signals' duties and the records that go with them. -/
def spend (c : Dev nD) : sProp 𝕄 :=
  iprop(tri (fun s => dutyTok ER (barCell (peer s c)) 0 s) ∗ tri (fun s => reached ER (recvCell s c) 0))

theorem cond1_0 : k0_cond1 (grid0.coords t0_0) = 1#1 := by decide
theorem cond2_0 : ¬ k0_cond2 (grid0.coords t0_0) = 1#1 := by decide
theorem cond1_1 : ¬ k0_cond1 (grid0.coords t0_1) = 1#1 := by decide
theorem cond2_1 : k0_cond2 (grid0.coords t0_1) = 1#1 := by decide

variable (K : GSem nD τ sig → ℕ)

set_option maxHeartbeats 1600000 in
/-- The kernel at the first grid point. -/
theorem step0 (c : Dev nD) (W : Waits sig Unit) (X Y : FVec F S512x2048 .f32) (Kt : PUnit → sProp 𝕄) :
    iprop((recs m K ∗ spend c ∗ tabPts c ∗ (∃ f, at_ c cc0_scratch0 f) ∗ (∃ f, at_ c cc0_scratch1 f)
          ∗ owes (c : Thread nD τ) (owB c 3) W ∗ at_ c cc0_stg0_0 X ∗ at_ c cc0_stg1_0 Y)
        ∗ ((tabPts c ∗ accPts c fullShare (k0_pay3 X Y k0_pay2) ∗ owes (c : Thread nD τ) (owB c 0) W ∗ at_ c cc0_stg0_0 X ∗ at_ c cc0_stg1_0 Y) -∗ Kt ⟨⟩))
      ⊢ runs c (cc0_body (grid0.coords t0_0) (Memref.whole main_v5) (Memref.isWhole_whole _) (Memref.whole cc0_stg0_0) (Memref.isWhole_whole _)
          (Memref.whole cc0_stg1_0) (Memref.isWhole_whole _) (Memref.whole cc0_stg2_0) (Memref.isWhole_whole _)
          (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part4_eq_skeleton]; unfold k0_part4_skel
  rw [dif_pos cond1_0, dif_neg cond2_0]
  simp only [semSignalWord, semWaitWord, smemLoad, smemLoadElt, Prog.lift, Prog.bind_op, Prog.bind_ret, Prog.pure_eq_ret, Prog.bind_assoc, wp_deviceId]
  unfold runs spend
  iintro ⟨⟨#HK, ⟨⟨Ht0, Ht1, Ht2⟩, ⟨#Hr0, #Hr1, #Hr2⟩⟩, Htab, ⟨%fa, Hacc⟩, ⟨%fc, Hcomm⟩, HO, HX, HY⟩, Hk⟩
  iapply (wp_load_val c (mm := Memref.whole cc0_scratch0) (Finset.subset_univ _) (Memref.readAt_unit_zero (Elt F) cc0_scratch0 hz _ _)) $$ Hacc; iintro Hacc
  iapply (wp_store_val c (mm := accM) (r := accR) (Mk := Finset.univ) (Memref.write_access_unit_zero_univ (Elt F) cc0_scratch0 hz _ _ _)) $$ Hacc; iintro Hacc
  unfold tabPts
  iapply (wp_load_val c (mm := Memref.whole main_v5) (Finset.subset_univ _) (Memref.readAt_unit_zero (Elt F) main_v5 hz1 _ _)) $$ Htab; iintro Htab
  iapply (wp_assume 𝒱₀ (c : Thread nD τ) none Set.univ (chk1 _ c))
  simp only [wp_deviceId]
  ihave Hs := (comm_split c fc) $$ Hcomm
  icases Hs with ⟨Hs0, Hs1, Hs2⟩
  iapply (wp_signal_peer m K 0 c _ (Fin.ext (dev1_eq c)) rfl (by decide) (owB c 2) rfl W) $$ [HO Ht0 Hs0]
  · isplitr; · iexact HK
    isplitl [HO]; · iexact HO
    isplitl [Ht0]; · iexact Ht0
    isplitl [Hs0]; · iexact Hs0
    iexact Hr0
  iintro HO
  iapply (wp_signal_peer m K 1 c _ (Fin.ext (dev2_eq c)) rfl (by decide) (owB c 1) rfl W) $$ [HO Ht1 Hs1]
  · isplitr; · iexact HK
    isplitl [HO]; · iexact HO
    isplitl [Ht1]; · iexact Ht1
    isplitl [Hs1]; · iexact Hs1
    iexact Hr1
  iintro HO
  iapply (wp_signal_peer m K 2 c _ (Fin.ext (dev3_eq c)) rfl (by decide) (owB c 0) rfl W) $$ [HO Ht2 Hs2]
  · isplitr; · iexact HK
    isplitl [HO]; · iexact HO
    isplitl [Ht2]; · iexact Ht2
    isplitl [Hs2]; · iexact Hs2
    iexact Hr2
  iintro HO
  iapply (wp_load_val c (mm := Memref.whole cc0_stg0_0) (Finset.subset_univ _) (Memref.readAt_unit_zero (Elt F) cc0_stg0_0 hz _ _)) $$ HX; iintro HX
  iapply (wp_load_val c (mm := Memref.whole cc0_stg1_0) (Finset.subset_univ _) (Memref.readAt_unit_zero (Elt F) cc0_stg1_0 hz _ _)) $$ HY; iintro HY
  iapply (wp_load_val c (mm := Memref.whole cc0_scratch0) (Finset.subset_univ _) (Memref.readAt_unit_zero (Elt F) cc0_scratch0 hz _ _)) $$ Hacc; iintro Hacc
  iapply (wp_load_val c (mm := Memref.whole cc0_scratch0) (Finset.subset_univ _) (Memref.readAt_unit_zero (Elt F) cc0_scratch0 hz _ _)) $$ Hacc; iintro Hacc
  iapply (wp_store_val c (mm := accM) (r := accR) (Mk := Finset.univ) (Memref.write_access_unit_zero_univ (Elt F) cc0_scratch0 hz _ _ _)) $$ Hacc; iintro Hacc
  unfold runs; rw [wp_ret]; imodintro
  iapply Hk
  rw [accPts_eq]
  isplitl [Htab]; · iexact Htab
  isplitl [Hacc]; · iexact Hacc
  isplitl [HO]; · iexact HO
  isplitl [HX] <;> iassumption

end Cert.LnProof
-- ==== Proof.Step1.lean ====
/-
# The kernel at the second grid point

The second grid point adds its block, waits for the three peers' signals, sends the accumulator to all three, waits
for all six transfers, and stores the sum of the four accumulators.
-/
module

public import proofs.«01_k».proof.Proof.Step0

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- The whole accumulator is the three shares the transfers read; -/
theorem acc_split (c : Dev nD) (X : FVec F S2x2048 .f32) :
    (at_ c cc0_scratch0 X : sProp 𝕄) ⊢ tri fun s => accPts c (piece s) X := by
  simp only [accPts_eq, piece]
  iintro H
  ihave H := (pointsTo_share (PosShare.mem_left_op_right fullShare)).1 $$ H
  icases H with ⟨Hl, Hr⟩
  isplitl [Hl]; · iexact Hl
  iapply (pointsTo_share (PosShare.mem_left_op_right fullShare.right)).1
  iexact Hr
/-- and conversely. -/
theorem acc_join (c : Dev nD) (X : FVec F S2x2048 .f32) :
    (tri fun s => accPts c (piece s) X : sProp 𝕄) ⊢ at_ c cc0_scratch0 X := by
  simp only [accPts_eq, piece]
  iintro ⟨Hl, Hr⟩
  iapply (pointsTo_share (PosShare.mem_left_op_right fullShare)).2
  isplitl [Hl]; · iexact Hl
  iapply (pointsTo_share (PosShare.mem_left_op_right fullShare.right)).2
  iexact Hr

/-- The three slots, each at some contents, are the whole receive buffer at some contents. -/
theorem comm_join (c : Dev nD) (f0 f1 f2 : Buf (Elt F) ((c : Thread nD τ).loc cc0_scratch1)) :
    iprop((((c : Thread nD τ).loc cc0_scratch1) ↦[slotSet 0]{fullShare} f0) ∗ (((c : Thread nD τ).loc cc0_scratch1) ↦[slotSet 1]{fullShare} f1)
        ∗ (((c : Thread nD τ).loc cc0_scratch1) ↦[slotSet 2]{fullShare} f2))
      ⊢ (iprop(∃ f, at_ c cc0_scratch1 f) : sProp 𝕄) := by
  have h := pointsTo_biUnion_join (Ix := Unit) (Name := ℕ) (U := UU) (Lvl := ℕ) (q := fullShare) (ℓ := (c : Thread nD τ).loc cc0_scratch1) Finset.univ slotSet ![f0, f1, f2] f0
    (fun _ _ _ _ hne => slot_disjoint hne)
  rw [bigSep_univ_eq_bigSepL [(0 : Fin 3), 1, 2] (by decide) (by decide), slot_cover] at h
  refine BIBase.Entails.trans h ?_
  iintro ⟨%g, -, H⟩
  iexists g; iexact H

/-- The accumulator is as many units as a slot. -/
theorem acc_credit : N = (accM : Memref sig .tc .vmem S2x2048 .f32).view.dmaCredit := rfl

/-- The elements a load of slot `s` reads are the slot's. -/
theorem slot_on (s : Fin 3) : (commM : Memref sig .tc .vmem S3x2x2048 .f32).view.setOn (slotR s).toLoadRect.set ⊆ slotSet s := by
  have h : ((View.whole cc0_scratch1).slice (slotR s)).set ⊆ slotSet s := (View.set_slice_whole cc0_scratch1 (slotR s)).subset
  rwa [View.set_slice] at h

/-- A slot owned at the peer's accumulator is the slot at contents that read as it. -/
theorem slot_open (s : Fin 3) (c : Dev nD) :
    (owns (c : Thread nD τ) (slotM s) fullShare (acc2 m (peer s c)) : sProp 𝕄)
      ⊢ iprop(∃ f : Buf (Elt F) ((c : Thread nD τ).loc cc0_scratch1), ⌜(slotM s).view.read (Elt F) f = acc2 m (peer s c)⌝
          ∗ (((c : Thread nD τ).loc cc0_scratch1) ↦[slotSet s]{fullShare} f)) := by
  unfold owns
  iintro ⟨%f, %hf, H⟩
  iexists f
  isplitr; · ipureintro; exact hf
  ihave H := (Entails.of_eq (slotPts_eq s c f)) $$ [H]
  · unfold slotPts; iexact H
  iexact H

/-- The value the kernel stores, of slots that hold the peers' accumulators. -/
theorem pay_eq (c : Dev nD) (f0 f1 f2 : Buf (Elt F) ((c : Thread nD τ).loc cc0_scratch1))
    (h0 : (slotM 0).view.read (Elt F) f0 = acc2 m (peer 0 c)) (h1 : (slotM 1).view.read (Elt F) f1 = acc2 m (peer 1 c))
    (h2 : (slotM 2).view.read (Elt F) f2 = acc2 m (peer 2 c)) :
    k0_pay4 (k0_pay1 (acc2 m c) ((commM : Memref sig .tc .vmem S3x2x2048 .f32).view.readAt (Elt F) (slotR 0).toLoadRect f0)
      ((commM : Memref sig .tc .vmem S3x2x2048 .f32).view.readAt (Elt F) (slotR 1).toLoadRect f1))
      ((commM : Memref sig .tc .vmem S3x2x2048 .f32).view.readAt (Elt F) (slotR 2).toLoadRect f2) = result m c := by
  unfold result; rw [← h0, ← h1, ← h2]; rfl

/-- What the second grid point consumes of the protocol: the device's positions in its cells, the duties its
    transfers pay, and its credits. -/
def take (c : Dev nD) : sProp 𝕄 :=
  iprop(atPos ER (barCell c) 0 ∅ 0 ∗ tri (fun s => atPos ER (sendCell s c) 0 ∅ 0) ∗ tri (fun s => atPos ER (recvCell s c) 0 ∅ 0)
    ∗ tri (fun s => reached ER (sendCell s c) 0) ∗ tri (fun s => dutyTok ER (sendCell s c) 0 0) ∗ tri (fun s => dutyTok ER (recvCell s (peer s c)) 0 0)
    ∗ cred (tallyAt (barCell c) () 3) ∗ tri (fun s => cred (tallyAt (recvCell s c) () N)))

/-- Every semaphore of the protocol on device `c`, at zero. -/
def zeros (c : Dev nD) : sProp 𝕄 :=
  iprop(semVal (barCell c) 0 ∗ tri (fun s => semVal (sendCell s c) 0) ∗ tri (fun s => semVal (recvCell s c) 0))

variable (K : GSem nD τ sig → ℕ)

/-- A cell past its one round closes at zero. -/
theorem cell_done {g : GSem nD τ sig} (h : g ∈ barCells ∪ ownCells) :
    iprop(recs m K ∗ atPos ER g 1 ∅ 0) ⊢ iprop(|={Set.univ}=> semVal g 0 : sProp 𝕄) :=
  (sep_mono_left (inv_at m K h)).trans (Rounds.cell_close ER (Rd m) (Set.mem_univ (K g)) (fun h => h) (R := 1) (duties_later m g))

set_option maxHeartbeats 3200000 in
/-- The kernel at the second grid point. -/
theorem step1 (c : Dev nD) (W : Waits sig Unit) (g : FVec F S2x2048 .f32) (Kt : PUnit → sProp 𝕄) :
    iprop((recs m K ∗ take c ∗ tabPts c ∗ levAts L lv ∗ accPts c fullShare (acc1 m c)
          ∗ owes (c : Thread nD τ) (owR c 3) W ∗ at_ c cc0_stg0_1 (blkA m c t0_1) ∗ at_ c cc0_stg1_1 (blkB m c t0_1) ∗ at_ c cc0_stg2_0 g)
        ∗ ((tabPts c ∗ (∃ f, at_ c cc0_scratch0 f) ∗ (∃ f, at_ c cc0_scratch1 f) ∗ (∃ W', owes (c : Thread nD τ) 0 W') ∗ zeros c
            ∗ at_ c cc0_stg0_1 (blkA m c t0_1) ∗ at_ c cc0_stg1_1 (blkB m c t0_1) ∗ at_ c cc0_stg2_0 (result m c)) -∗ Kt ⟨⟩))
      ⊢ runs c (cc0_body (grid0.coords t0_1) (Memref.whole main_v5) (Memref.isWhole_whole _) (Memref.whole cc0_stg0_1) (Memref.isWhole_whole _)
          (Memref.whole cc0_stg1_1) (Memref.isWhole_whole _) (Memref.whole cc0_stg2_0) (Memref.isWhole_whole _)
          (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part4_eq_skeleton]; unfold k0_part4_skel
  rw [dif_neg cond1_1, dif_pos cond2_1]
  simp only [k0_part1_eq_skeleton, k0_part2_eq_skeleton, k0_part3_eq_skeleton]; unfold k0_part1_skel k0_part2_skel k0_part3_skel
  simp only [semSignalWord, semWaitWord, smemLoad, smemLoadElt, Prog.lift, Prog.bind_op, Prog.bind_ret, Prog.pure_eq_ret, Prog.bind_assoc, wp_deviceId]
  unfold take zeros
  iintro ⟨⟨#HK, ⟨PB, ⟨Pq0, Pq1, Pq2⟩, ⟨Pr0, Pr1, Pr2⟩, ⟨#Rq0, #Rq1, #Rq2⟩, ⟨Tq0, Tq1, Tq2⟩, ⟨Tr0, Tr1, Tr2⟩, HcB, ⟨Cr0, Cr1, Cr2⟩⟩, Htab, #Hlev, Hacc, HO, HX, HY, Hout⟩, Hk⟩
  iapply (wp_load_val c (mm := Memref.whole cc0_stg0_1) (Finset.subset_univ _) (Memref.readAt_unit_zero (Elt F) cc0_stg0_1 hz _ _)) $$ HX; iintro HX
  iapply (wp_load_val c (mm := Memref.whole cc0_stg1_1) (Finset.subset_univ _) (Memref.readAt_unit_zero (Elt F) cc0_stg1_1 hz _ _)) $$ HY; iintro HY
  ihave Hacc := (Entails.of_eq (accPts_eq c fullShare (acc1 m c))) $$ Hacc
  iapply (wp_load_val c (mm := Memref.whole cc0_scratch0) (Finset.subset_univ _) (Memref.readAt_unit_zero (Elt F) cc0_scratch0 hz _ _)) $$ Hacc; iintro Hacc
  iapply (wp_load_val c (mm := Memref.whole cc0_scratch0) (Finset.subset_univ _) (Memref.readAt_unit_zero (Elt F) cc0_scratch0 hz _ _)) $$ Hacc; iintro Hacc
  iapply (wp_store_val c (mm := Memref.whole cc0_scratch0) (r := accR) (Mk := Finset.univ) (Memref.write_access_unit_zero_univ (Elt F) cc0_scratch0 hz _ _ _)) $$ Hacc; iintro Hacc
  unfold tabPts
  iapply (wp_load_val c (mm := Memref.whole main_v5) (Finset.subset_univ _) (Memref.readAt_unit_zero (Elt F) main_v5 hz1 _ _)) $$ Htab; iintro Htab
  iapply (wp_assume 𝒱₀ (c : Thread nD τ) none Set.univ (chk2 _ c))
  simp only [wp_deviceId]
  iapply (wp_wait_bar m K c 3 rfl (by decide) W) $$ [HcB HO PB]
  · isplitr; · iexact HK
    isplitl [HcB]; · iexact HcB
    isplitl [HO]; · iexact HO
    isplitr; · iexact Hlev
    iexact PB
  iintro ⟨HO, PB, P0, P1, P2⟩
  ihave Hacc := (Entails.of_eq (show at_ c cc0_scratch0 (k0_pay3 (blkA m c t0_1) (blkB m c t0_1) (acc1 m c)) = at_ c cc0_scratch0 (acc2 m c) from rfl)) $$ Hacc
  ihave Hsh := (acc_split c (acc2 m c)) $$ Hacc
  icases Hsh with ⟨A0, A1, A2⟩
  iapply (wp_send_peer m K 0 c _ (Fin.ext (dev4_eq c)) rfl rfl rfl (owR c 2) rfl _) $$ [A0 P0 HO Tq0 Tr0]
  · isplitr; · iexact HK
    isplitl [A0]; · iexact A0
    isplitl [P0]; · iexact P0
    isplitl [HO]; · iexact HO
    isplitl [Tq0]; · iexact Tq0
    isplitr; · iexact Rq0
    iexact Tr0
  iintro ⟨Cq0, HO⟩
  iapply (wp_send_peer m K 1 c _ (Fin.ext (dev5_eq c)) rfl rfl rfl (owR c 1) rfl _) $$ [A1 P1 HO Tq1 Tr1]
  · isplitr; · iexact HK
    isplitl [A1]; · iexact A1
    isplitl [P1]; · iexact P1
    isplitl [HO]; · iexact HO
    isplitl [Tq1]; · iexact Tq1
    isplitr; · iexact Rq1
    iexact Tr1
  iintro ⟨Cq1, HO⟩
  iapply (wp_send_peer m K 2 c _ (Fin.ext (dev6_eq c)) rfl rfl rfl 0 (zero_add _).symm _) $$ [A2 P2 HO Tq2 Tr2]
  · isplitr; · iexact HK
    isplitl [A2]; · iexact A2
    isplitl [P2]; · iexact P2
    isplitl [HO]; · iexact HO
    isplitl [Tq2]; · iexact Tq2
    isplitr; · iexact Rq2
    iexact Tr2
  iintro ⟨Cq2, HO⟩
  iapply (wp_wait_send m K 0 c rfl acc_credit (wpE_waitDma2_eq 𝒱₀ (c : Thread nD τ) none Set.univ) _) $$ [Cq0 HO Pq0]
  · isplitr; · iexact HK
    isplitl [Cq0]; · iexact Cq0
    isplitl [HO]; · iexact HO
    iexact Pq0
  iintro ⟨HO, Pq0, A0⟩
  iapply (wp_wait_recv m K 0 c rfl (credit_eq 0).symm (wpE_waitDma2_eq 𝒱₀ (c : Thread nD τ) none Set.univ) _) $$ [Cr0 HO Pr0]
  · isplitr; · iexact HK
    isplitl [Cr0]; · iexact Cr0
    isplitl [HO]; · iexact HO
    iexact Pr0
  iintro ⟨HO, Pr0, S0⟩
  iapply (wp_wait_send m K 1 c rfl acc_credit (wpE_waitDma2_eq 𝒱₀ (c : Thread nD τ) none Set.univ) _) $$ [Cq1 HO Pq1]
  · isplitr; · iexact HK
    isplitl [Cq1]; · iexact Cq1
    isplitl [HO]; · iexact HO
    iexact Pq1
  iintro ⟨HO, Pq1, A1⟩
  iapply (wp_wait_recv m K 1 c rfl (credit_eq 1).symm (wpE_waitDma2_eq 𝒱₀ (c : Thread nD τ) none Set.univ) _) $$ [Cr1 HO Pr1]
  · isplitr; · iexact HK
    isplitl [Cr1]; · iexact Cr1
    isplitl [HO]; · iexact HO
    iexact Pr1
  iintro ⟨HO, Pr1, S1⟩
  iapply (wp_wait_send m K 2 c rfl acc_credit (wpE_waitDma2_eq 𝒱₀ (c : Thread nD τ) none Set.univ) _) $$ [Cq2 HO Pq2]
  · isplitr; · iexact HK
    isplitl [Cq2]; · iexact Cq2
    isplitl [HO]; · iexact HO
    iexact Pq2
  iintro ⟨HO, Pq2, A2⟩
  iapply (wp_wait_recv m K 2 c rfl (credit_eq 2).symm (wpE_waitDma2_eq 𝒱₀ (c : Thread nD τ) none Set.univ) _) $$ [Cr2 HO Pr2]
  · isplitr; · iexact HK
    isplitl [Cr2]; · iexact Cr2
    isplitl [HO]; · iexact HO
    iexact Pr2
  iintro ⟨HO, Pr2, S2⟩
  ihave Hacc := (acc_join c (acc2 m c)) $$ [A0 A1 A2]
  · isplitl [A0]; · iexact A0
    isplitl [A1] <;> iassumption
  iapply (wp_load_val c (mm := Memref.whole cc0_scratch0) (Finset.subset_univ _) (Memref.readAt_unit_zero (Elt F) cc0_scratch0 hz _ _)) $$ Hacc; iintro Hacc
  ihave S0 := (slot_open m 0 c) $$ S0
  icases S0 with ⟨%f0, %hf0, S0⟩
  iapply (wp_load_val c (mm := commM) (r := (slotR 0).toLoadRect) (slot_on 0) rfl) $$ S0; iintro S0
  ihave S1 := (slot_open m 1 c) $$ S1
  icases S1 with ⟨%f1, %hf1, S1⟩
  iapply (wp_load_val c (mm := commM) (r := (slotR 1).toLoadRect) (slot_on 1) rfl) $$ S1; iintro S1
  ihave S2 := (slot_open m 2 c) $$ S2
  icases S2 with ⟨%f2, %hf2, S2⟩
  iapply (wp_load_val c (mm := commM) (r := (slotR 2).toLoadRect) (slot_on 2) rfl) $$ S2; iintro S2
  iapply (wp_load_val c (mm := Memref.whole cc0_stg2_0) (Finset.subset_univ _) (Memref.readAt_unit_zero (Elt F) cc0_stg2_0 hz _ _)) $$ Hout; iintro Hout
  iapply (wp_store_val c (mm := Memref.whole cc0_stg2_0) (r := accR) (Mk := Finset.univ) (Memref.write_access_unit_zero_univ (Elt F) cc0_stg2_0 hz _ _ _)) $$ Hout; iintro Hout
  imod (cell_done m K (Finset.mem_union_left _ (bar_mem c))) $$ [PB] with ZB
  · isplitr; · iexact HK
    iexact PB
  imod (cell_done m K (Finset.mem_union_right _ (send_mem 0 c))) $$ [Pq0] with Zq0
  · isplitr; · iexact HK
    iexact Pq0
  imod (cell_done m K (Finset.mem_union_right _ (send_mem 1 c))) $$ [Pq1] with Zq1
  · isplitr; · iexact HK
    iexact Pq1
  imod (cell_done m K (Finset.mem_union_right _ (send_mem 2 c))) $$ [Pq2] with Zq2
  · isplitr; · iexact HK
    iexact Pq2
  imod (cell_done m K (Finset.mem_union_right _ (recv_mem 0 c))) $$ [Pr0] with Zr0
  · isplitr; · iexact HK
    iexact Pr0
  imod (cell_done m K (Finset.mem_union_right _ (recv_mem 1 c))) $$ [Pr1] with Zr1
  · isplitr; · iexact HK
    iexact Pr1
  imod (cell_done m K (Finset.mem_union_right _ (recv_mem 2 c))) $$ [Pr2] with Zr2
  · isplitr; · iexact HK
    iexact Pr2
  rw [wp_ret]; imodintro
  iapply Hk
  rw [pay_eq m c f0 f1 f2 hf0 hf1 hf2]
  isplitl [Htab]; · iexact Htab
  isplitl [Hacc]; · iexists _; iexact Hacc
  isplitl [S0 S1 S2]
  · iapply (comm_join c f0 f1 f2)
    isplitl [S0]; · iexact S0
    isplitl [S1] <;> iassumption
  isplitl [HO]; · iexists _; iexact HO
  isplitl [ZB Zq0 Zq1 Zq2 Zr0 Zr1 Zr2]
  · isplitl [ZB]; · iexact ZB
    isplitl [Zq0 Zq1 Zq2]
    · isplitl [Zq0]; · iexact Zq0
      isplitl [Zq1] <;> iassumption
    · isplitl [Zr0]; · iexact Zr0
      isplitl [Zr1] <;> iassumption
  isplitl [HX]; · iexact HX
  isplitl [HY] <;> iassumption

end Cert.LnProof
-- ==== Proof.Oblig.lean ====
/-
# The pipeline's proof data and its body's obligation

What the kernel holds between grid points, and that the kernel's run at each of the two points meets it.
-/
module

public import proofs.«01_k».proof.Proof.Step1

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

open Idealize.ShloMosaic.Pipeline (Dat BodyObligation)

/-- Before the first grid point: the whole protocol ahead, both scratch buffers at some contents. -/
def inv0 (c : Dev nD) : sProp 𝕄 :=
  iprop((∃ K, recs m K) ∗ spend c ∗ take c ∗ tabPts c ∗ (∃ f, at_ c cc0_scratch0 f) ∗ (∃ f, at_ c cc0_scratch1 f) ∗ levAts L lv)
/-- Between the two: the receive buffer is lent to the peers, the accumulator holds the first block's sums. -/
def inv1 (c : Dev nD) : sProp 𝕄 :=
  iprop((∃ K, recs m K) ∗ take c ∗ tabPts c ∗ accPts c fullShare (acc1 m c) ∗ levAts L lv)
/-- After the second: the scratch buffers are back and every semaphore is at zero. -/
def inv2 (c : Dev nD) : sProp 𝕄 :=
  iprop(tabPts c ∗ (∃ f, at_ c cc0_scratch0 f) ∗ (∃ f, at_ c cc0_scratch1 f) ∗ zeros c)

/-- The pipeline's proof data on device `c`. -/
def dats (p : Fin 1) (c : Dev nD) : Dat τ (Elt F) Unit ℕ UU ℕ (Pipeline.pinD (pcfgs (F := F)) adm c p) c where
  A w := match w with
    | ⟨0, _⟩ => m ((c : Thread nD τ).loc main_arg0)
    | ⟨1, _⟩ => m ((c : Thread nD τ).loc main_arg1)
    | ⟨2, _⟩ => m ((c : Thread nD τ).loc main_v6)
  after w t := match w with
    | ⟨0, _⟩ => blkA m c t
    | ⟨1, _⟩ => blkB m c t
    | ⟨2, _⟩ => result m c
  Φ t := match t with
    | ⟨0, _⟩ => inv0 m c
    | ⟨1, _⟩ => inv1 m c
    | ⟨_ + 2, _⟩ => inv2 c
  q _ := fullShare
  owed t := match t with
    | ⟨0, _⟩ => O₀ c
    | ⟨1, _⟩ => owR c 3
    | ⟨_ + 2, _⟩ => 0

/-- A staging buffer at contents `X`, as the pipeline's rules state it. -/
abbrev stg (c : Dev nD) (b : Ref sig .tc) (X : b.ty.Contents (Elt F)) : sProp 𝕄 := owns (c : Thread nD τ) (Memref.whole b) fullShare X

theorem stg_eq (c : Dev nD) (b : Ref sig .tc) (X : b.ty.Contents (Elt F)) : stg c b X = at_ c b X := owns_whole (c : Thread nD τ) b fullShare X

/-- Each input window's block moves at every grid point, -/
theorem rows_ne (c : Dev nD) :
    (![2 * (c.val / 2 % 2) + (grid0.coords t0_1 0).val, 0] : Fin 2 → Nat) ≠ ![2 * (c.val / 2 % 2) + (grid0.coords t0_0 0).val, 0] := fun h => by
  have h0 : 2 * (c.val / 2 % 2) + (grid0.coords t0_1 0).val = 2 * (c.val / 2 % 2) + (grid0.coords t0_0 0).val := congrFun h 0
  have h1 : (grid0.coords t0_1 0).val = 1 := by decide
  have h2 : (grid0.coords t0_0 0).val = 0 := by decide
  omega
theorem index_0 (c : Dev nD) (t : Fin grid0.N) :
    (win0 (adm (F := F) c 0) 0).index t = (![2 * (c.val / 2 % 2) + (grid0.coords t 0).val, 0] : Fin 2 → Nat) := tr0_eq c (grid0.coords t)
theorem index_1 (c : Dev nD) (t : Fin grid0.N) :
    (win0 (adm (F := F) c 0) 1).index t = (![2 * (c.val / 2 % 2) + (grid0.coords t 0).val, 0] : Fin 2 → Nat) := tr1_eq c (grid0.coords t)
/-- so it is fetched at each; -/
theorem fetch_0 (c : Dev nD) (t : Fin grid0.N) : (win0 (adm (F := F) c 0) 0).fetch t = true := by
  rcases fin_N0 t with rfl | rfl
  · rfl
  · refine (Bool.and_eq_true _ _).mpr ⟨rfl, (Bool.or_eq_true _ _).mpr (Or.inr (decide_eq_true ⟨Nat.one_pos, ?_⟩))⟩
    exact fun h => rows_ne c ((index_0 (F := F) c t0_1).symm.trans (h.trans (index_0 c t0_0)))
theorem fetch_1 (c : Dev nD) (t : Fin grid0.N) : (win0 (adm (F := F) c 0) 1).fetch t = true := by
  rcases fin_N0 t with rfl | rfl
  · rfl
  · refine (Bool.and_eq_true _ _).mpr ⟨rfl, (Bool.or_eq_true _ _).mpr (Or.inr (decide_eq_true ⟨Nat.one_pos, ?_⟩))⟩
    exact fun h => rows_ne c ((index_1 (F := F) c t0_1).symm.trans (h.trans (index_1 c t0_0)))
/-- the output window's one block is written back after the second only. -/
theorem flush_2 (c : Dev nD) : (win0 (adm (F := F) c 0) 2).flush t0_0 = false :=
  Bool.and_eq_false_imp.mpr fun _ => (Bool.or_eq_false_iff).mpr ⟨decide_eq_false (fun h => by
    have h0 : (t0_0 : Fin grid0.N).val = 0 := rfl
    have := N_0
    omega), decide_eq_false fun ⟨_, h⟩ => h rfl⟩
theorem idle_2 : idle0 2 (grid0.coords t0_0) = true := by decide
theorem busy_2 : idle0 2 (grid0.coords t0_1) = false := by decide

theorem before_0 (c : Dev nD) (t : Fin grid0.N) (d) : (dats m 0 c).before (0 : Fin 3) t d = blkA m c t := by
  unfold Dat.before; exact (if_pos (fetch_0 c t)).trans rfl
theorem before_1 (c : Dev nD) (t : Fin grid0.N) (d) : (dats m 0 c).before (1 : Fin 3) t d = blkB m c t := by
  unfold Dat.before; exact (if_pos (fetch_1 c t)).trans rfl

/-- What the first grid point is given, and what it leaves. -/
def pre0' (c : Dev nD) : sProp 𝕄 :=
  iprop(inv0 m c ∗ (dats m 0 c).owesAt () t0_0.castSucc
    ∗ (∃ d, stg c cc0_stg0_0 ((dats m 0 c).before (0 : Fin 3) t0_0 d)) ∗ (∃ d, stg c cc0_stg1_0 ((dats m 0 c).before (1 : Fin 3) t0_0 d))
    ∗ (∃ d, stg c cc0_stg2_0 ((dats m 0 c).before (2 : Fin 3) t0_0 d)))
def post0' (c : Dev nD) : sProp 𝕄 :=
  iprop(inv1 m c ∗ (dats m 0 c).owesAt () t0_0.succ ∗ stg c cc0_stg0_0 (blkA m c t0_0) ∗ stg c cc0_stg1_0 (blkB m c t0_0)
    ∗ (∃ d, stg c cc0_stg2_0 ((dats m 0 c).before (2 : Fin 3) t0_0 d)))
/-- What the second is given, and what it leaves. -/
def pre1' (c : Dev nD) : sProp 𝕄 :=
  iprop(inv1 m c ∗ (dats m 0 c).owesAt () t0_1.castSucc
    ∗ (∃ d, stg c cc0_stg0_1 ((dats m 0 c).before (0 : Fin 3) t0_1 d)) ∗ (∃ d, stg c cc0_stg1_1 ((dats m 0 c).before (1 : Fin 3) t0_1 d))
    ∗ (∃ d, stg c cc0_stg2_0 ((dats m 0 c).before (2 : Fin 3) t0_1 d)))
def post1' (c : Dev nD) : sProp 𝕄 :=
  iprop(inv2 c ∗ (dats m 0 c).owesAt () t0_1.succ ∗ stg c cc0_stg0_1 (blkA m c t0_1) ∗ stg c cc0_stg1_1 (blkB m c t0_1)
    ∗ stg c cc0_stg2_0 (result m c))

theorem body0 (c : Dev nD) : pre0' m c
    ⊢ runs c (cc0_body (grid0.coords t0_0) (Memref.whole main_v5) (Memref.isWhole_whole _) (Memref.whole cc0_stg0_0) (Memref.isWhole_whole _)
          (Memref.whole cc0_stg1_0) (Memref.isWhole_whole _) (Memref.whole cc0_stg2_0) (Memref.isWhole_whole _)
          (Memref.whole cc0_scratch0) (Memref.isWhole_whole _) (Memref.whole cc0_scratch1) (Memref.isWhole_whole _) cc0_scratch2 cc0_scratch3) fun _ => post0' m c := by
  unfold pre0' inv0
  simp only [before_0, before_1, stg_eq]
  unfold Dat.owesAt Pipeline.owesWithin
  iintro ⟨⟨⟨%K, #HK⟩, Hsp, Htk, Htab, Hacc, Hcomm, #Hlev⟩, ⟨%W, %hW, HO⟩, ⟨%d0, HX⟩, ⟨%d1, HY⟩, Hout⟩
  iapply (step0 m K c W (blkA m c t0_0) (blkB m c t0_0) fun _ => post0' m c)
  isplitr [Htk Hout]
  · isplitr; · iexact HK
    isplitl [Hsp]; · iexact Hsp
    isplitl [Htab]; · iexact Htab
    isplitl [Hacc]; · iexact Hacc
    isplitl [Hcomm]; · iexact Hcomm
    isplitl [HO]; · iexact HO
    isplitl [HX] <;> iassumption
  iintro ⟨Htab, Hacc, HO, HX, HY⟩
  unfold post0' inv1
  simp only [stg_eq]
  unfold Dat.owesAt Pipeline.owesWithin
  isplitl [Htk Htab Hacc]
  · isplitr; · iexists K; iexact HK
    isplitl [Htk]; · iexact Htk
    isplitl [Htab]; · iexact Htab
    isplitl [Hacc]; · iexact Hacc
    iexact Hlev
  isplitl [HO]
  · iexists W; isplitr; · ipureintro; exact fun _ _ => Or.inl trivial
    iexact HO
  isplitl [HX]; · iexact HX
  isplitl [HY] <;> iassumption

theorem body1 (c : Dev nD) : pre1' m c
    ⊢ runs c (cc0_body (grid0.coords t0_1) (Memref.whole main_v5) (Memref.isWhole_whole _) (Memref.whole cc0_stg0_1) (Memref.isWhole_whole _)
          (Memref.whole cc0_stg1_1) (Memref.isWhole_whole _) (Memref.whole cc0_stg2_0) (Memref.isWhole_whole _)
          (Memref.whole cc0_scratch0) (Memref.isWhole_whole _) (Memref.whole cc0_scratch1) (Memref.isWhole_whole _) cc0_scratch2 cc0_scratch3) fun _ => post1' m c := by
  unfold pre1' inv1
  simp only [before_0, before_1, stg_eq]
  unfold Dat.owesAt Pipeline.owesWithin
  iintro ⟨⟨⟨%K, #HK⟩, Htk, Htab, Hacc, #Hlev⟩, ⟨%W, %hW, HO⟩, ⟨%d0, HX⟩, ⟨%d1, HY⟩, ⟨%d2, Hout⟩⟩
  iapply (step1 m K c W _ fun _ => post1' m c)
  isplitl [Htk Htab Hacc HO HX HY Hout]
  · isplitr; · iexact HK
    isplitl [Htk]; · iexact Htk
    isplitl [Htab]; · iexact Htab
    isplitr; · iexact Hlev
    isplitl [Hacc]; · iexact Hacc
    isplitl [HO]; · iexact HO
    isplitl [HX]; · iexact HX
    isplitl [HY] <;> iassumption
  iintro ⟨Htab, Hacc, Hcomm, ⟨%W', HO⟩, Hz, HX, HY, Hout⟩
  unfold post1' inv2
  simp only [stg_eq]
  unfold Dat.owesAt Pipeline.owesWithin
  isplitl [Htab Hacc Hcomm Hz]
  · isplitl [Htab]; · iexact Htab
    isplitl [Hacc]; · iexact Hacc
    isplitl [Hcomm] <;> iassumption
  isplitl [HO]
  · iexists W'; isplitr; · ipureintro; exact fun _ _ => Or.inl trivial
    iexact HO
  isplitl [HX]; · iexact HX
  isplitl [HY] <;> iassumption

/-- The staging buffers of a grid point, by its place: the input windows alternate between their two, the output has one. -/
def place (c : Dev nD) (n : Nat) : (w : Fin 3) → Fin ((win0 (F := F) (adm c 0) w).nbuf) := fun w => match w with
  | ⟨0, _⟩ => (⟨n % 2, Nat.mod_lt _ (by decide)⟩ : Fin 2)
  | ⟨1, _⟩ => (⟨n % 2, Nat.mod_lt _ (by decide)⟩ : Fin 2)
  | ⟨2, _⟩ => (⟨0, by decide⟩ : Fin 1)
  | ⟨_ + 3, h⟩ => absurd h (Nat.not_lt.2 (Nat.le_add_left _ _))

theorem slots_0 (c : Dev nD) : (Pipeline.pinD (pcfgs (F := F)) adm c 0).slots t0_0 = place c 0 := by
  funext w; fin_cases w <;> rfl
theorem slots_1 (c : Dev nD) : (Pipeline.pinD (pcfgs (F := F)) adm c 0).slots t0_1 = place c 1 := by
  funext w
  fin_cases w
  · exact if_pos (fetch_0 (F := F) c t0_1)
  · exact if_pos (fetch_1 (F := F) c t0_1)
  · exact Subsingleton.elim (α := Fin 1) _ _

/-- The output window is idle at the first point and stored at the second, as the pipeline's configuration says it. -/
theorem idle_at_0 (c : Dev nD) : (Pipeline.pinD (pcfgs (F := F)) adm c 0).idle (2 : Fin 3) ((Pipeline.pinD (pcfgs (F := F)) adm c 0).grid.coords t0_0) = true := by
  have h : (Pipeline.pinD (pcfgs (F := F)) adm c 0).idle (2 : Fin 3) (grid0.coords t0_0) = true := idle_2
  exact h
theorem busy_at_1 (c : Dev nD) : (Pipeline.pinD (pcfgs (F := F)) adm c 0).idle (2 : Fin 3) ((Pipeline.pinD (pcfgs (F := F)) adm c 0).grid.coords t0_1) = false := by
  have h : (Pipeline.pinD (pcfgs (F := F)) adm c 0).idle (2 : Fin 3) (grid0.coords t0_1) = false := busy_2
  exact h

/-- The kernel's run at each grid point is what the pipeline asks of it. -/
theorem body_obligation (c : Dev nD) : BodyObligation (dats (F := F) m 0 c) (defs₀ (F := F)) 𝒱₀ () Set.univ := fun t => by
  rcases fin_N0 t with rfl | rfl
  · rw [bigSep_W0, bigSep_W0, slots_0]
    have hi := idle_at_0 (F := F) c
    have hf : ((Pipeline.pinD (pcfgs (F := F)) adm c 0).win (2 : Fin 3)).flush t0_0 = false := flush_2 c
    dsimp only at hi hf ⊢
    rw [hi]
    dsimp only
    rw [hf]
    exact body0 m c
  · rw [bigSep_W0, bigSep_W0, slots_1]
    have hi := busy_at_1 (F := F) c
    dsimp only at hi ⊢
    rw [hi]
    exact body1 m c

end Cert.LnProof
-- ==== Proof.Deal.lean ====
module

public import proofs.«01_k».proof.Proof.Oblig

/- The launch of the protocol: the tokens and positions dealt to the devices, and the credits they start with. -/

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

theorem bigSep_fin3 (Φ : Fin 3 → sProp 𝕄) : bigSep Finset.univ Φ = tri Φ := bigSep_univ_eq_bigSepL [0, 1, 2] (by decide) (by decide) Φ

/-! ## The duties' tokens, indexed by who pays them -/

/-- Kind 0: the signal to the peer in slot `s`; kind 1: the departure of the transfer to it; kind 2: its arrival there. -/
def tok (x : Dev nD × Fin 3 × Fin 3) : GSem nD τ sig × ℕ × Fin 3 :=
  match x with
  | (c, 0, s) => (barCell (peer s c), 0, s)
  | (c, 1, s) => (sendCell s c, 0, 0)
  | (c, 2, s) => (recvCell s (peer s c), 0, 0)

/-- A token told by three numbers: its device, its semaphore, its duty. -/
def tokNum (x : Dev nD × Fin 3 × Fin 3) : ℕ × ℕ × ℕ :=
  match x with
  | (c, 0, s) => ((peer s c).val, 0, s.val)
  | (c, 1, s) => (c.val, 5 + s.val, 0)
  | (c, 2, s) => ((peer s c).val, 8 + s.val, 0)

def numOf (y : GSem nD τ sig × ℕ × Fin 3) : ℕ × ℕ × ℕ :=
  (y.1.1.1.val, (match y.1.2 with | .reg _ => 0 | .dma q => q.val), y.2.2.val)

theorem numOf_tok (x : Dev nD × Fin 3 × Fin 3) : numOf (tok x) = tokNum x := by
  obtain ⟨c, k, s⟩ := x
  fin_cases k <;> rfl

set_option maxRecDepth 20000 in
theorem tokNum_inj : ∀ x y : Dev nD × Fin 3 × Fin 3, tokNum x = tokNum y → x = y := by decide

theorem tok_inj : Function.Injective tok := fun x y h => tokNum_inj x y (by rw [← numOf_tok, ← numOf_tok, h])
def allToks : Finset (GSem nD τ sig × ℕ × Fin 3) := Finset.univ.map ⟨tok, tok_inj⟩

/-- The tokens of the duties that device `c` pays. -/
def toks (c : Dev nD) : sProp 𝕄 :=
  iprop(tri (fun s => dutyTok ER (barCell (peer s c)) 0 s) ∗ tri (fun s => dutyTok ER (sendCell s c) 0 0)
    ∗ tri (fun s => dutyTok ER (recvCell s (peer s c)) 0 0))

theorem allToks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_prod, bigSep_fin3]
  simp only [bigSep_fin3]
  rfl
theorem barCells_eq (Φ : GSem nD τ sig → sProp 𝕄) : bigSep barCells Φ = bigSep Finset.univ fun c : Dev nD => Φ (barCell c) := by
  unfold barCells; rw [bigSep_map]; rfl
theorem ownCells_eq (Φ : GSem nD τ sig → sProp 𝕄) :
    bigSep ownCells Φ = bigSep Finset.univ fun c : Dev nD => bigSep Finset.univ fun k : Fin 6 => Φ (ownCell (c, k)) := by
  unfold ownCells; rw [bigSep_map, bigSep_univ_prod]; rfl

/-! ## The credits -/

theorem one_cred (s : Fin 3) (sm : SemLoc sig) (k : ℕ) (c : Dev nD) :
    (Pipeline.launchCred (fun d => tallyAt ((peer s d : Thread nD τ), sm) () k) c : sProp 𝕄) ⊢ cred (tallyAt ((c : Thread nD τ), sm) () k) := by
  refine (Pipeline.launchCred_elim _ c sm).trans (Entails.of_eq (congrArg cred ?_))
  unfold tallyAt
  refine congrArg _ (Finsupp.ext fun u => ?_)
  cases u
  rw [Pipeline.launchCredit_owing, Finsupp.single_eq_same]
  have h : ∀ d : Dev nD, (tallyOn ((peer s d : Thread nD τ), sm) (Finsupp.single () k) : CellTallies nD τ sig Unit) ((c : Thread nD τ), sm) () = if d = peer s c then k else 0 := fun d => by
    have := tallyAt_apply (Ix := Unit) ((peer s d : Thread nD τ), sm) () k ((c : Thread nD τ), sm) ()
    unfold tallyAt at this
    rw [this]
    by_cases hd : d = peer s c
    · subst hd; rw [peer_peer, if_pos ⟨rfl, rfl⟩, if_pos rfl]
    · rw [if_neg hd, if_neg]
      rintro ⟨h1, _⟩
      have h2 : peer s d = c := (congrArg (fun g : GSem nD τ sig => g.1.1) h1).symm
      exact hd (by rw [← h2, peer_peer])
  rw [Finset.sum_congr rfl fun d _ => h d, Finset.sum_ite_eq' Finset.univ (peer s c) fun _ => k, if_pos (Finset.mem_univ _)]

/-- The credits of device `c`: its barrier's three units, and each arrival's. -/
def creds (c : Dev nD) : sProp 𝕄 :=
  iprop(cred (tallyAt (barCell c) () 3) ∗ tri (fun s => cred (tallyAt (recvCell s c) () N)))

theorem cred_three (c : Dev nD) :
    iprop(cred (tallyAt (barCell c) () 1) ∗ cred (tallyAt (barCell c) () 1) ∗ cred (tallyAt (barCell c) () 1))
      ⊢ (cred (tallyAt (barCell c) () 3) : sProp 𝕄) := by
  have h : (tallyAt (barCell c) () 3 : CellTallies nD τ sig Unit) = tallyAt (barCell c) () 1 + (tallyAt (barCell c) () 1 + tallyAt (barCell c) () 1) := by
    show tallyAt (barCell c) () (1 + (1 + 1)) = _
    rw [tallyAt_add, tallyAt_add]
  rw [h]
  exact (sep_mono_right (cred_add _ _).2).trans (cred_add _ _).2

theorem launch_creds (c : Dev nD) : (Pipeline.launchCred O₀ c : sProp 𝕄) ⊢ creds c := by
  have e : (Pipeline.launchCred O₀ c : sProp 𝕄)
      = iprop(((((Pipeline.launchCred (fun d => tallyAt (recvCell 2 (peer 2 d)) () N) c ∗ Pipeline.launchCred (fun d => tallyAt (recvCell 1 (peer 1 d)) () N) c)
        ∗ Pipeline.launchCred (fun d => tallyAt (recvCell 0 (peer 0 d)) () N) c)
        ∗ Pipeline.launchCred (fun d => tallyAt (barCell (peer 2 d)) () 1) c)
        ∗ Pipeline.launchCred (fun d => tallyAt (barCell (peer 1 d)) () 1) c)
        ∗ Pipeline.launchCred (fun d => tallyAt (barCell (peer 0 d)) () 1) c) := by
    rw [← Pipeline.launchCred_add, ← Pipeline.launchCred_add, ← Pipeline.launchCred_add, ← Pipeline.launchCred_add, ← Pipeline.launchCred_add]
    rfl
  rw [e]
  unfold creds tri
  iintro ⟨⟨⟨⟨⟨H2, H1⟩, H0⟩, B2⟩, B1⟩, B0⟩
  ihave H2 := (one_cred (F := F) 2 _ N c) $$ H2
  ihave H1 := (one_cred (F := F) 1 _ N c) $$ H1
  ihave H0 := (one_cred (F := F) 0 _ N c) $$ H0
  ihave B2 := (one_cred (F := F) 2 _ 1 c) $$ B2
  ihave B1 := (one_cred (F := F) 1 _ 1 c) $$ B1
  ihave B0 := (one_cred (F := F) 0 _ 1 c) $$ B0
  isplitl [B0 B1 B2]
  · iapply (cred_three c)
    isplitl [B0]; · iexact B0
    isplitl [B1] <;> iassumption
  isplitl [H0]; · iexact H0
  isplitl [H1] <;> iassumption

/-! ## The state each device starts from -/

/-- What device `c` holds of the protocol until the kernel's region is entered. -/
def ghost (c : Dev nD) : sProp 𝕄 :=
  iprop((∃ K, recs m K) ∗ levAts L lv ∗ atPos ER (barCell c) 0 ∅ 0 ∗ (bigSep Finset.univ fun k : Fin 6 => openTok ER (ownCell (c, k)))
    ∗ toks c ∗ creds c ∗ ∃ W, owes (c : Thread nD τ) (O₀ c) W)

/-- No two staging buffers complete on one cell. -/
theorem cells_inj : Function.Injective (Pipeline.PerCore.cellOf (nD := nD) (τ := τ) (Pipeline.pinD (pcfgs (F := F)) adm)) :=
  Pipeline.PerCore.cellOf_injective (Pipeline.pinD (pcfgs (F := F)) adm)
    (fun c p => Pipeline.specSemsDistinct_of_nodup _ (by rw [Fin.fin_one_eq_zero p]; exact semsDistinct 0))
    (fun c p p' h => absurd (Subsingleton.elim p p') h)

def u₁ : Rounds.URounds (GSem nD τ sig) (Fin 3) := Rounds.launchOf barCells ownCells allToks
def u₀ : UU := (Rounds.initOf (Pipeline.PerCore.cells (Pipeline.pinD (pcfgs (F := F)) adm) cells_inj) (Pipeline.PerCore.launchToks (Pipeline.pinD (pcfgs (F := F)) adm) cells_inj), u₁)

theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- The protocol's element rides on device 0. -/
def G (c : Dev nD) : sProp 𝕄 := if c = 0 then BI.own (ER u₁) else iprop(emp)

theorem G_at : (bigSep Finset.univ fun c : Dev nD => (G c : sProp 𝕄)) ⊢ BI.own (ER u₁) := by
  refine (BI.bigSep_elim (Finset.mem_univ (0 : Dev nD))).trans ?_
  unfold G; rw [if_pos rfl]
  exact BI.Entails.refl _
theorem G_intro : (BI.own (ER u₁) : sProp 𝕄) ⊢ bigSep Finset.univ fun c : Dev nD => (G c : sProp 𝕄) := by
  rw [bigSep_univ_at _ (0 : Dev nD)]
  have h : (bigSep (Finset.univ.erase (0 : Dev nD)) fun c => (G c : sProp 𝕄)) = iprop(emp) := by
    rw [bigSep_congr (Ψ := fun _ => iprop(emp)) fun c hc => by unfold G; exact if_neg (Finset.ne_of_mem_erase hc)]
    exact Idealize.SL.BI.bigSep_emp_const _
  rw [h]
  unfold G; rw [if_pos rfl]
  iintro H
  isplitl [H]; · iexact H
  iempintro

/-- The protocol is set up: from every device's barrier at zero, its dues and credits. -/
theorem launch (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (ghost m) : sProp 𝕄) := by
  simp only [bigSep_sep', unscoped_bar]
  iintro ⟨⟨Hb, HO, Hc, -, HG⟩, #Hl⟩
  ihave HG := G_at $$ HG
  ihave Hb := (Entails.of_eq (barCells_eq (F := F) fun g => semVal g 0).symm) $$ Hb
  imod (Rounds.fund_launch ER (Rd m) cells_disjoint (fun _ _ h => h) allToks (Es := Set.univ)) $$ [Hb HG] with ⟨%K, -, HI, Hr, Ha, Ho, Ht⟩
  · isplitl [Hb]; · iexact Hb
    unfold u₁; iexact HG
  imodintro
  ihave Ha := (Entails.of_eq (barCells_eq (F := F) fun g => atPos ER g 0 ∅ 0)) $$ Ha
  ihave Ho := (Entails.of_eq (ownCells_eq (F := F) fun g => openTok ER g)) $$ Ho
  ihave Ht := (Entails.of_eq (allToks_eq (F := F))) $$ Ht
  ihave Hc := (show (bigSep Finset.univ fun c : Dev nD => (Pipeline.launchCred O₀ c : sProp 𝕄)) ⊢ bigSep Finset.univ fun c : Dev nD => creds c from bigSep_mono fun c _ => launch_creds c) $$ Hc
  ihave #HR := (show iprop(bigSep (barCells ∪ ownCells) (fun g => cellInv ER (Rd m) (K g) g) ∗ bigSep barCells (fun g => reached ER g 0)) ⊢ recs m K from BI.Entails.refl _) $$ [HI Hr]
  · isplitl [HI] <;> iassumption
  ihave Hrl := (BI.bigSep_of_persistent (Finset.univ : Finset (Dev nD)) iprop(recs m K ∗ levAts L lv)) $$ []
  · isplitr; · iexact HR
    iexact Hl
  have hg : (bigSep Finset.univ fun c : Dev nD => iprop((recs m K ∗ levAts L lv) ∗ atPos ER (barCell c) 0 ∅ 0 ∗ (bigSep Finset.univ fun k : Fin 6 => openTok ER (ownCell (c, k)))
      ∗ toks c ∗ creds c ∗ owes (c : Thread nD τ) (O₀ c) ∅)) ⊢ (bigSep Finset.univ (ghost m) : sProp 𝕄) := bigSep_mono fun c _ => show iprop((recs m K ∗ levAts L lv) ∗ atPos ER (barCell c) 0 ∅ 0 ∗ (bigSep Finset.univ fun k : Fin 6 => openTok ER (ownCell (c, k)))
      ∗ toks c ∗ creds c ∗ owes (c : Thread nD τ) (O₀ c) ∅) ⊢ ghost m c from by
    unfold ghost
    iintro ⟨⟨HR, Hl⟩, Ha, Ho, Ht, Hc, HO⟩
    isplitl [HR]; · iexists K; iexact HR
    isplitl [Hl]; · iexact Hl
    isplitl [Ha]; · iexact Ha
    isplitl [Ho]; · iexact Ho
    isplitl [Ht]; · iexact Ht
    isplitl [Hc]; · iexact Hc
    iexists ∅; iexact HO
  iapply hg
  simp only [bigSep_sep']
  isplitl [Hrl]; · iexact Hrl
  isplitl [Ha]; · iexact Ha
  isplitl [Ho]; · iexact Ho
  isplitl [Ht]; · iexact Ht
  isplitl [Hc] <;> iassumption

end Cert.LnProof
-- ==== Proof.Arrays.lean ====
module

public import proofs.«01_k».proof.Proof.Deal
public import Idealize.ShloMosaic.Lib.Pipeline.ValueKit.Geometry

/- The arrays around the kernel's region: what they hold as it is entered and as it is left. -/

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

open Idealize.ShloMosaic.Pipeline (Dat)

/-- What the region leaves in the result's array. -/
def outs : Outs (F := F) := fun _ r c => if h : r = main_v6 then h ▸ result m c else m ((c : Thread nD τ).loc r)

theorem outs_out (c : Dev nD) : outs m 2 main_v6 c = result m c := dif_pos rfl

/-- The host stretch leaves the device's word in the prefetched table; -/
theorem V1_table (c : Dev nD) : V1 m c main_v5 = (fun _ => word c : (main_v5 : Ref sig .tc).ty.Contents (Elt F)) := by
  have h : V1 m c main_v5 = (fun _ => Scalar.remui (Scalar.divui (Dev.word c) 2#32) 2#32 : (main_v5 : Ref sig .tc).ty.Contents (Elt F)) := by
    unfold V1
    rfl
  rw [h]
  funext i
  clear h
  revert c
  decide
theorem V1_0 (c : Dev nD) : V1 m c main_arg0 = m ((c : Thread nD τ).loc main_arg0) := (V1_of m c main_arg0 (by decide)).trans rfl
theorem V1_1 (c : Dev nD) : V1 m c main_arg1 = m ((c : Thread nD τ).loc main_arg1) := (V1_of m c main_arg1 (by decide)).trans rfl
theorem V1_6 (c : Dev nD) : V1 m c main_v6 = m ((c : Thread nD τ).loc main_v6) := (V1_of m c main_v6 (by decide)).trans rfl

/-- The buffers outside the kernel's region. -/
def restRefs : List (Ref sig .tc) := [main_arg2, main_c, main_c_0, main_v1, main_v2, main_v3, main_v4]
def rest (c : Dev nD) (V : Valuation τ sig (Elt F)) : sProp 𝕄 := bigSepL restRefs fun b => at_ c b (V b)

theorem held_parts (c : Dev nD) (V : Valuation τ sig (Elt F)) :
    (StableHlo.held (c : Thread nD τ) (Pipeline.ucRefs τ sig) V : sProp 𝕄)
      = iprop(at_ c main_arg0 (V main_arg0) ∗ at_ c main_arg1 (V main_arg1) ∗ at_ c main_v6 (V main_v6) ∗ at_ c main_v5 (V main_v5) ∗ rest c V) := by
  rw [← Pipeline.unscopedBufs_held]
  unfold unscopedBufs
  rw [bigSep_eq_bigSepL_of_eq (main_arg0 :: main_arg1 :: main_v6 :: main_v5 :: restRefs) (by decide) (by decide)]
  rfl

theorem rest_same (c : Dev nD) : rest c (V2 m (outs m) c) = (rest c (V1 m c) : sProp 𝕄) := by
  unfold rest restRefs
  simp only [bigSepL]
  rw [V2_of m (outs m) c main_arg2 (by decide), V2_of m (outs m) c main_c (by decide), V2_of m (outs m) c main_c_0 (by decide),
    V2_of m (outs m) c main_v1 (by decide), V2_of m (outs m) c main_v2 (by decide), V2_of m (outs m) c main_v3 (by decide), V2_of m (outs m) c main_v4 (by decide)]

theorem share_eq (c : Dev nD) (w : Fin 3) : (dats m 0 c).share w = fullShare := by unfold Dat.share; split <;> rfl

theorem arrays_parts (c : Dev nD) (A : (w : Fin 3) → Buf (Elt F) (((Pipeline.pinD (pcfgs (F := F)) adm c 0).win w).arr.view.loc (c : Thread nD τ))) :
    ((dats m 0 c).arrays A : sProp 𝕄) = iprop(at_ c main_arg0 (A 0) ∗ at_ c main_arg1 (A 1) ∗ at_ c main_v6 (A 2)) := by
  unfold Dat.arrays
  rw [bigSep_W0]
  simp only [share_eq]
  rw [(arr_whole0 0).set_eq_univ, (arr_whole0 1).set_eq_univ, (arr_whole0 2).set_eq_univ]

theorem final_0 (c : Dev nD) : (dats m 0 c).arrAt (0 : Fin 3) (Pipeline.pinD (pcfgs (F := F)) adm c 0).N = m ((c : Thread nD τ).loc main_arg0) :=
  (dats m 0 c).arrAt_in (0 : Fin 3) rfl _
theorem final_1 (c : Dev nD) : (dats m 0 c).arrAt (1 : Fin 3) (Pipeline.pinD (pcfgs (F := F)) adm c 0).N = m ((c : Thread nD τ).loc main_arg1) :=
  (dats m 0 c).arrAt_in (1 : Fin 3) rfl _
theorem whole_2 (c : Dev nD) : ((Pipeline.pinD (pcfgs (F := F)) adm c 0).win (2 : Fin 3)).WholeAt t0_1 := by
  refine ⟨rfl, fun t ht => ?_, fun a => ?_⟩
  · rcases fin_N0 t with rfl | rfl
    · rw [show ((Pipeline.pinD (pcfgs (F := F)) adm c 0).win (2 : Fin 3)).flush t0_0 = false from flush_2 c] at ht
      cases ht
    · rfl
  · fin_cases a <;> exact ⟨rfl, rfl⟩
theorem final_2 (c : Dev nD) : (dats m 0 c).arrAt (2 : Fin 3) (Pipeline.pinD (pcfgs (F := F)) adm c 0).N = result m c :=
  (dats m 0 c).arrAt_eq_of_after_last (2 : Fin 3) t0_1 (whole_2 c) (result m c) (fun j => rfl) (arr_whole0 2)

end Cert.LnProof
-- ==== Proof.Region.lean ====
module

public import proofs.«01_k».proof.Proof.Arrays

/- The region's record, and the whole module's run on the four devices. -/

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

open Idealize.ShloMosaic.Pipeline (Dat)

/-- The staging buffers complete on the first five cells. -/
theorem stage_lt (w : Fin 3) (s : Fin ((pcfgs (F := F) 0).spec w).nbuf) : (((pcfgs (F := F) 0).spec w).sem s).val < 5 := by
  fin_cases w <;> fin_cases s <;>
    first | exact (by decide : 0 < 5) | exact (by decide : 1 < 5) | exact (by decide : 2 < 5) | exact (by decide : 3 < 5) | exact (by decide : 4 < 5)

/-- The kernel's own cells are none of the staging ones. -/
theorem own_facts : Pipeline.OwnSemFacts (pcfgs (F := F) 0).spec osem where
  isScoped k := by revert k; decide
  inj := osem_inj
  disj k w s h := by
    have e : 5 + k.val = (((pcfgs (F := F) 0).spec w).sem s).val := congrArg Fin.val (SemLoc.dma.inj h)
    have := stage_lt (F := F) w s
    omega

/-- The wait of the launch's own staging cells, whatever the device still owes. -/
theorem stage_waits (c : Dev nD) : (levAts L lv : sProp 𝕄)
    ⊢ Pipeline.PerCore.cellsWaits (Pipeline.pinD (pcfgs (F := F)) adm) (dats m) () 0 c :=
  Pipeline.PerCore.cellsWaits_intro (Pipeline.pinD (pcfgs (F := F)) adm) (dats m) () 0 c fun w s t =>
    mayWait_stage c _ (fun h8 => absurd (stage_lt (F := F) w s) (Nat.not_lt.2 (Nat.le_trans (by decide) h8))) _ fun g u h => by
      match t, h with
      | ⟨0, _⟩, h => exact owB_pos (k := 3) h
      | ⟨1, _⟩, h =>
        have h : 0 < owR c 3 g u := h
        exact ⟨(owR_pos h).1, by rw [(owR_pos h).2]; exact Nat.two_pos⟩
      | ⟨_ + 2, _⟩, h => exact absurd h (Nat.lt_irrefl 0)

/-- What enters the invariant of the region on device `c`; what it gives back. -/
def entering (c : Dev nD) : sProp 𝕄 := iprop((∃ K, recs m K) ∗ spend c ∗ take c ∗ levAts L lv)
def leaving (c : Dev nD) : sProp 𝕄 := iprop(tabPts c ∗ semVal (barCell c) 0)
/-- The thread state before and after the region. -/
def before (c : Dev nD) : sProp 𝕄 := iprop(StableHlo.held (c : Thread nD τ) (Pipeline.ucRefs τ sig) (V1 m c) ∗ ghost m c)
def after (c : Dev nD) : sProp 𝕄 :=
  iprop((StableHlo.held (c : Thread nD τ) (Pipeline.ucRefs τ sig) (V2 m (outs m) c) ∗ semVal (barCell c) 0) ∗ ∃ W, owes (c : Thread nD τ) (0 : CellTallies nD τ sig Unit) W)

/-- Device `c`'s own cells are its three sending and its three receiving ones. -/
theorem six (c : Dev nD) (Q : GSem nD τ sig → sProp 𝕄) :
    (bigSep Finset.univ fun k : Fin 6 => Q (ownCell (c, k))) = iprop(tri (fun s => Q (sendCell s c)) ∗ tri fun s => Q (recvCell s c)) := by
  rw [bigSep_univ_eq_bigSepL [0, 1, 2, 3, 4, 5] (by decide) (by decide)]
  show iprop(Q (sendCell 0 c) ∗ Q (sendCell 1 c) ∗ Q (sendCell 2 c) ∗ Q (recvCell 0 c) ∗ Q (recvCell 1 c) ∗ Q (recvCell 2 c)) = _
  unfold tri
  have hab : ∀ A B C : sProp 𝕄, iprop((A ∗ B) ∗ C) = iprop(A ∗ B ∗ C) := fun _ _ _ => BI.sep_assoc.antisymm BI.sep_assoc'
  rw [hab, hab]

theorem own_zeros (c : Dev nD) : (Pipeline.ownSems0 osem c : sProp 𝕄)
    = iprop(tri (fun s => semVal (sendCell s c) 0) ∗ tri fun s => semVal (recvCell s c) 0) := six c fun g => semVal g 0

theorem scratch_parts (c : Dev nD) : (Pipeline.scopedRest (pcfgs (F := F) 0).spec c : sProp 𝕄)
    = iprop((∃ f, at_ c cc0_scratch0 f) ∗ ∃ f, at_ c cc0_scratch1 f) := scopedRest0_eq c

theorem table_parts (c : Dev nD) : (Pipeline.prefHeld (pcfgs (F := F) 0).pre c (fun _ => fullShare) (adm (F := F) c 0).1 : sProp 𝕄) = tabPts c := by
  unfold Pipeline.prefHeld
  rw [Finset.univ_unique, BI.bigSep_singleton]
  rfl

/-- Opening the own cells at zero: with the duties and credits dealt at the launch, all that the kernel spends and takes. -/
theorem own_open (c : Dev nD) : iprop(ghost m c ∗ Pipeline.ownSems0 osem c)
    ⊢ (|={Set.univ}=> iprop(entering m c ∗ ∃ W, owes (c : Thread nD τ) (O₀ c) W) : sProp 𝕄) := by
  unfold ghost
  iintro ⟨⟨⟨%K, #HR⟩, #Hl, Hb, Ho, Ht, Hc, HO⟩, Hz⟩
  have hi : recs m K ⊢ (bigSep Finset.univ fun k : Fin 6 => cellInv ER (Rd m) (K (ownCell (c, k))) (ownCell (c, k)) : sProp 𝕄) :=
    BI.bigSep_intro_persistent fun k _ => inv_at m K (Finset.mem_union_right _ (own_mem (c, k)))
  ihave HI := hi $$ HR
  imod (Rounds.cells_open ER (Rd m) Finset.univ (fun k : Fin 6 => ownCell (c, k)) (fun k => K (ownCell (c, k))) (Es := Set.univ) fun _ _ => Set.mem_univ _) $$ [HI Ho Hz] with Hop
  · isplitr [Hz]
    · rw [bigSep_sep']; isplitl [HI] <;> iassumption
    ihave Hz := (show Pipeline.ownSems0 osem c ⊢ (bigSep Finset.univ fun k : Fin 6 => semVal (ownCell (c, k)) 0 : sProp 𝕄) from BI.Entails.refl _) $$ Hz
    iexact Hz
  imodintro
  ihave H2 := (Entails.of_eq (bigSep_sep' (Finset.univ : Finset (Fin 6)) (fun k => atPos ER (ownCell (c, k)) 0 ∅ 0) (fun k => reached ER (ownCell (c, k)) 0))) $$ Hop
  icases H2 with ⟨Ha, Hr⟩
  ihave Ha := (Entails.of_eq (six (F := F) c fun g => atPos ER g 0 ∅ 0)) $$ Ha
  ihave Hr := (Entails.of_eq (six (F := F) c fun g => reached ER g 0)) $$ Hr
  icases Ha with ⟨Has, Har⟩
  icases Hr with ⟨Hrs, Hrr⟩
  unfold toks creds
  icases Ht with ⟨Tb, Ts, Tr⟩
  icases Hc with ⟨Cb, Cr⟩
  isplitr [HO]
  · unfold entering spend take
    isplitr; · iexists K; iexact HR
    isplitl [Tb Hrr]; · isplitl [Tb] <;> iassumption
    isplitl; rotate_left; · iexact Hl
    isplitl [Hb]; · iexact Hb
    isplitl [Has]; · iexact Has
    isplitl [Har]; · iexact Har
    isplitl [Hrs]; · iexact Hrs
    isplitl [Ts]; · iexact Ts
    isplitl [Tr]; · iexact Tr
    isplitl [Cb] <;> iassumption
  · iexact HO

theorem entry (c : Dev nD) : iprop(before m c ∗ Pipeline.ownSems0 osem c ∗ levAts L lv)
    ⊢ (|={Set.univ}=> iprop((dats m 0 c).arrays ((dats m 0 c).arrAt · 0) ∗ Pipeline.prefHeld (pcfgs (F := F) 0).pre c (fun _ => fullShare) (adm (F := F) c 0).1
        ∗ (dats m 0 c).owesAt () 0 ∗ entering m c ∗ rest c (V1 m c)) : sProp 𝕄) := by
  rw [table_parts, arrays_parts]
  unfold before tabPts
  rw [held_parts, V1_0, V1_1, V1_6, V1_table]
  iintro ⟨⟨⟨H0, H1, H6, H5, Hr⟩, Hg⟩, Hs, -⟩
  imod (own_open m c) $$ [Hg Hs] with ⟨HX, HO⟩
  · isplitl [Hg] <;> iassumption
  imodintro
  isplitl [H0 H1 H6]
  · isplitl [H0]; · iexact H0
    isplitl [H1]; · iexact H1
    iexact H6
  isplitl [H5]; · iexact H5
  isplitl [HO]
  · unfold Dat.owesAt Pipeline.owesWithin
    icases HO with ⟨%W, HO⟩
    iexists W
    isplitr; · ipureintro; exact fun _ _ => Or.inl trivial
    iexact HO
  isplitl [HX] <;> iassumption

theorem V2_out (c : Dev nD) : V2 m (outs m) c main_v6 = result m c := (show V2 m (outs m) c main_v6 = outs m 2 main_v6 c from rfl).trans (outs_out m c)

theorem exit_ (c : Dev nD) : iprop((dats m 0 c).arrays ((dats m 0 c).arrAt · (Pipeline.pinD (pcfgs (F := F)) adm c 0).N)
      ∗ (dats m 0 c).owesAt () (Fin.last (Pipeline.pinD (pcfgs (F := F)) adm c 0).N) ∗ leaving c ∗ rest c (V1 m c))
    ⊢ (|={Set.univ}=> after m c : sProp 𝕄) := by
  rw [arrays_parts, final_0, final_1, final_2]
  unfold after leaving tabPts
  rw [held_parts, rest_same, V2_of m (outs m) c main_arg0 (by decide), V2_of m (outs m) c main_arg1 (by decide), V2_of m (outs m) c main_v5 (by decide), V1_0, V1_1, V1_table]
  iintro ⟨⟨H0, H1, H6⟩, HO, ⟨H5, Hb⟩, Hr⟩
  imodintro
  isplitr [HO]
  · isplitr [Hb]
    · isplitl [H0]; · iexact H0
      isplitl [H1]; · iexact H1
      isplitl [H6]
      · rw [show V2 m (outs m) c main_v6 = result m c from V2_out m c]; iexact H6
      isplitl [H5]; · iexact H5
      iexact Hr
    · iexact Hb
  · unfold Dat.owesAt Pipeline.owesWithin
    icases HO with ⟨%W, -, HO⟩
    iexists W
    iexact HO

theorem inv_in (c : Dev nD) : iprop(entering m c ∗ Pipeline.prefHeld (pcfgs (F := F) 0).pre c (fun _ => fullShare) (adm (F := F) c 0).1 ∗ Pipeline.scopedRest (pcfgs (F := F) 0).spec c)
    ⊢ (inv0 m c : sProp 𝕄) := by
  rw [table_parts, scratch_parts]
  unfold inv0 entering
  iintro ⟨⟨HR, Hs, Ht, Hl⟩, H5, HA, HB⟩
  isplitl [HR]; · iexact HR
  isplitl [Hs]; · iexact Hs
  isplitl [Ht]; · iexact Ht
  isplitl [H5]; · iexact H5
  isplitl [HA]; · iexact HA
  isplitl [HB] <;> iassumption

theorem inv_out (c : Dev nD) : (inv2 c : sProp 𝕄) ⊢ iprop(leaving c ∗ Pipeline.ownSems0 osem c ∗ Pipeline.scopedRest (pcfgs (F := F) 0).spec c) := by
  rw [scratch_parts, own_zeros]
  unfold inv2 leaving zeros
  iintro ⟨H5, HA, HB, Hb, Hs, Hr⟩
  isplitl [H5 Hb]; · isplitl [H5] <;> iassumption
  isplitl [Hs Hr]; · isplitl [Hs] <;> iassumption
  isplitl [HA] <;> iassumption

/-- The kernel's region. -/
def region : Pipeline.PerCore.RegionSeg (pcfgs (F := F)) adm (dats m) () defs₀ 𝒱₀ L lv 0 where
  win := winFacts0.to₀
  block_pos := block_pos0
  stage_whole := stage_whole0
  K := Fin 6
  osem := osem
  ho := own_facts
  hbody c := (body_obligation m c).loose
  hwaits := stage_waits m
  pre := before m
  post := after m
  X := entering m
  Y := leaving
  Z c := rest c (V1 m c)
  hentry := entry m
  hin := inv_in m
  hout := inv_out
  hexit := exit_ m

end Cert.LnProof
-- ==== Proof.Run.lean ====
module

public import proofs.«01_k».proof.Proof.Region

/- The whole module's run on the four devices: every device ends with the result and with its arguments as they were,
and every semaphore is back at zero. -/

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- The thread state kept while the host stretch runs. -/
def kept : Fin 2 → Dev nD → sProp 𝕄 := fun _ => ghost m

/-- The module on device `c`: the host stretch that fills the table, then the kernel's region. -/
def parts (c : Dev nD) : List (Pipeline.PerCore.Seg (pcfgs (F := F)) adm (dats m) () defs₀ 𝒱₀ L lv) :=
  [.host (seg0 m 𝒱₀ L lv (kept m) c), .region (region m)]

/-- The protocol's and the pipeline's elements, one after the other. -/
theorem elements : (ownU (u₀ (F := F)) : sProp 𝕄) ⊢ |={Set.univ}=> iprop(BI.own (EP (Rounds.initOf (Pipeline.PerCore.cells (Pipeline.pinD (pcfgs (F := F)) adm) cells_inj) (Pipeline.PerCore.launchToks (Pipeline.pinD (pcfgs (F := F)) adm) cells_inj)))
    ∗ bigSep Finset.univ fun c : Dev nD => (G c : sProp 𝕄)) := by
  unfold u₀
  iintro Hu
  ihave H := (ownU_pair _ _) $$ Hu
  icases H with ⟨HP, HX⟩
  imodintro
  isplitl [HP]; · iexact HP
  iapply G_intro
  iexact HX

/-- What the run leaves on device `c`. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
  ∧ s.mem ((c.tc : Thread nD τ).loc main_v6) = result m c ∧ s.sem (barCell c) = 0

theorem start (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ ghost m c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launch m ρ) $$ [Hr Hla] with HE
  · isplitl [Hr] <;> iassumption
  imodintro
  rw [bigSep_sep']
  isplitl [Hh] <;> iassumption

theorem finish (c : Dev nD) (s : Phys nD τ sig (Elt F)) :
    iprop((StableHlo.held (c : Thread nD τ) (Pipeline.ucRefs τ sig) (V2 m (outs m) c) ∗ semVal (barCell c) 0) ∗ SI s)
      ⊢ (|={Set.univ}=> iprop(⌜Ends m c s.mem⌝ ∗ SI s) : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s) $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c)⟩,
      (h (Proc.devRef .tc main_v6) (Finset.mem_filter.mpr ⟨StableHlo.devRef_mem_tcRefs main_v6, by decide⟩)).trans (V2_out m c), hb⟩
  · iexact HSI

set_option backward.isDefEq.respectTransparency.types false in
/-- From any memory and with every semaphore at zero, the module runs to its end on all four devices; each then holds
the result, its arguments are unchanged, and every semaphore is at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.PerCore.θ_run_regions_kit_sems (pcfgs (F := F)) adm (dats m) () cells_inj EP defs₀ 𝒱₀ L lv m ρ main (parts m)
    (fun c Q => by
      rewrite [main_chain c, Pipeline.PerCore.Seg.run_eq_chain,
        show (parts m c).map Pipeline.PerCore.Seg.prog = [StableHlo.seq (hostOps0 c), Prog.lift (.customCall (Pipeline.entry 0) ())] from rfl]
      dsimp (config := { failIfUnchanged := false }) only
      exact .rfl)
    (fun c => by simp only [parts, Pipeline.PerCore.Seg.pipes_host, Pipeline.PerCore.Seg.pipes_region, Pipeline.PerCore.Seg.pipes_nil]; decide) O₀ L_of_ne G u₀ elements
    (T₀ := fun c => iprop(StableHlo.held (c : Thread nD τ) (Pipeline.ucRefs τ sig) (V0 m c) ∗ ghost m c))
    (Tₙ := fun c => iprop(StableHlo.held (c : Thread nD τ) (Pipeline.ucRefs τ sig) (V2 m (outs m) c) ∗ semVal (barCell c) 0))
    (hch := fun c => ⟨.rfl, .rfl, .rfl⟩)
    (hinit := start m ρ) (QY := Ends m) (hfin := finish m) (hQ := fun s h hs => ⟨h, funext fun g => ?_⟩)
  by_cases hg : g.1.2 ≠ .tc ∨ g.2.isScoped .tc = true
  · exact hs g hg
  · obtain ⟨⟨d, p⟩, q⟩ := g
    have hp : p = .tc := by by_contra hp; exact hg (.inl hp)
    subst hp
    have hq : ∀ q : SemLoc sig, ¬ q.isScoped .tc = true → q = SemLoc.reg barrier0 := by decide
    rw [hq q fun h => hg (.inr h)]
    exact (h d).2.2

end Cert.LnProof
-- ==== Proof.Frames.lean ====
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal.Run

/- The frames: the kernel's one run with the values dropped, and the reference's. -/

@[expose] public section

noncomputable section

namespace Cert.LnProof

open Idealize.ShloMosaic Idealize.SL.Sem

instance factsK : Cert.Kernel.Facts := Cert.Kernel.Gen.facts
instance factsI : Cert.KernelIdeal.Facts := Cert.KernelIdeal.Gen.facts
instance factsR : Cert.ReferenceIdeal.Facts := Cert.ReferenceIdeal.Gen.facts

/-- The idealized kernel's frame. -/
theorem frame_ideal : Cert.quiescent_KernelIdeal := fun m ρ _ =>
  (θ_run (Cert.KernelIdeal.defs (F := Ideal)) _ _).mono (fun _ h => ⟨fun c => (h.1 c).1, h.2⟩) (run_main (F := Ideal) m ρ)

/-- The printed kernel and the idealized one have one text, so at machine floats one body table; -/
theorem same_bodies : @Cert.Kernel.defs₀ Bits _ _ = @Cert.KernelIdeal.defs₀ Bits _ _ := by
  refine congrArg Defs.onTc (funext fun ℓ => funext fun x => ?_)
  match ℓ, x with
  | 0, (t, s) => rfl
  | ⟨_ + 1, h⟩, _ => exact absurd h (Nat.not_lt.2 (Nat.le_add_left _ _))
theorem same_defs : @Cert.Kernel.defs Bits _ _ = @Cert.KernelIdeal.defs Bits _ _ :=
  congrArg (Pipeline.defs (Cert.KernelIdeal.pcfgs (F := Bits))) same_bodies
/-- one module; -/
theorem same_main : @Cert.Kernel.main Bits _ _ = @Cert.KernelIdeal.main Bits _ _ := rfl
/-- and one run. -/
theorem same_run (s : MemSt Cert.KernelIdeal.nD Cert.KernelIdeal.τ Cert.KernelIdeal.sig (Elt Bits)) :
    θ_run (Cert.Kernel.defs (F := Bits)) (onTc (τ := Cert.Kernel.τ) (Cert.Kernel.main (F := Bits))) s
      = θ_run (Cert.KernelIdeal.defs (F := Bits)) (onTc (τ := Cert.KernelIdeal.τ) (Cert.KernelIdeal.main (F := Bits))) s :=
  congrArg₂ (fun D M => θ_run D (onTc (τ := Cert.KernelIdeal.τ) M) s) same_defs same_main

/-- The kernel's frame. -/
theorem frame_kernel : Cert.quiescent_Kernel := fun m ρ _ => by
  rw [same_run]
  exact (θ_run (Cert.KernelIdeal.defs (F := Bits)) _ _).mono (fun _ h => ⟨fun c => (h.1 c).1, h.2⟩) (run_main (F := Bits) m ρ)

/-- The reference's frame: it has no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

end Cert.LnProof
-- ==== Proof.Norm.lean ====
module

public import proofs.«01_k».proof.Proof.Gen.KernelIdeal
public import proofs.«01_k».proof.Proof.Gen.KernelIdeal.Skeleton
public import Idealize.ShloMosaic.Lib.Pointwise

/- A row's normalization over the extended reals, and what one block of rows adds to the kernel's accumulator. -/

@[expose] public section

noncomputable section

namespace Cert.LnProof

open Cert.KernelIdeal Cert.KernelIdeal.Gen
open Idealize.ShloMosaic

/-- The mean of a row; -/
def mean (x : Fin 2048 → EReal) : EReal := Ideal.div (∑ k, x k) (Ideal.ofBits .f32 0x45000000#32)
/-- its variance; -/
def variance (x : Fin 2048 → EReal) : EReal := Ideal.div (∑ k, (x k - mean x) * (x k - mean x)) (Ideal.ofBits .f32 0x45000000#32)
/-- and the row normalized, at column `l`. -/
def hat (x : Fin 2048 → EReal) (l : Fin 2048) : EReal := (x l - mean x) * Ideal.rsqrt (variance x + Ideal.ofBits .f32 0x3727C5AC#32)

/-- What a row `x` of the first operand, with the entry `y` of the second, adds to column `l` of the result's row `i`:
    the entry times the normalized row to the first row, the entry alone to the second. -/
def share (i : Fin 2) (x : Fin 2048 → EReal) (y : EReal) (l : Fin 2048) : EReal := if i = 0 then y * hat x l else y

/-- A block of rows adds to the accumulator the sum of its rows' shares. -/
theorem block_step (x y : FVec Ideal S512x2048 .f32) (a : FVec Ideal S2x2048 .f32) (i : Fin 2) (l : Fin 2048) :
    k0_pay3 x y a (ix2 i l) = a (ix2 i l) + ∑ r : Fin 512, share i (fun k => x (ix2 r k)) (y (ix2 r l)) l := by
  match i with
  | 0 => simp only [share, if_true]; pointwise [k0_pay3, hat, variance, mean]
  | 1 => simp only [share, Fin.one_eq_zero_iff, Nat.succ_ne_self, if_false]; pointwise [k0_pay3]

/-- The accumulator starts at zero. -/
theorem start_zero (j : S2x2048.Idx) : (k0_pay2 : FVec Ideal S2x2048 .f32) j = 0 := by
  pointwise [k0_pay2]

end Cert.LnProof
-- ==== Proof.Blocks.lean ====
module

public import proofs.«01_k».proof.Proof.Run
public import proofs.«01_k».proof.Proof.Norm
public import Idealize.ShloMosaic.Lib.Layout

/- The rows that a device's blocks hold: eight blocks of 512 rows cut the whole operands, and each device reads two of
   them. -/

@[expose] public section

noncomputable section

namespace Cert.LnProof

open Cert.KernelIdeal Cert.KernelIdeal.Gen
open Idealize.ShloMosaic Idealize.ShloMosaic.TcCoe Idealize.SL.Sem

/-- Row `r` of block `b` of the whole operand. -/
def globalRow (b : Fin 8) (r : Fin 512) : Fin 4096 := ⟨b.val * 512 + r.val, by omega⟩

/-- The block of the whole operands that device `c` reads at grid point `i`: its second mesh coordinate picks the half,
    its first the quarter. -/
def blockOf (c : Dev nD) (i : Fin 2) : Fin 8 := ⟨4 * (c.val % 2) + 2 * (c.val / 2 % 2) + i.val, by omega⟩

/-- The row of the device's shard at which row `r` of its block at grid point `i` lies. -/
def shardRow (c : Dev nD) (i : Fin 2) (r : Fin 512) : Fin 2048 := ⟨(2 * (c.val / 2 % 2) + i.val) * 512 + r.val, by omega⟩

variable (m : (ℓ : Loc nD τ sig) → Buf (Elt Ideal) ℓ)

/-- The two grid points. -/
def point : Fin 2 → Fin grid0.N
  | 0 => t0_0
  | 1 => t0_1

/-- The first operand's block holds these rows of the shard; -/
theorem blkA_shard (c : Dev nD) (i : Fin 2) (r : Fin 512) (l : Fin 2048) :
    blkA m c (point i) (ix2 r l) = m ((c : Thread nD τ).loc main_arg0) (ix2 (shardRow c i r) l) := by
  refine congrArg (m ((c : Thread nD τ).loc main_arg0)) (funext fun a => Fin.ext ?_)
  refine ((win0 (adm (F := Ideal) c 0) 0).rect_emb_val (point i) (ix2 r l) a).trans ?_
  have h : (win0 (adm (F := Ideal) c 0) 0).index (point i) = ![2 * (c.val / 2 % 2) + ((grid0.coords (point i)) 0).val, 0] := tr0_eq c _
  have hi : ((grid0.coords (point i)) 0).val = i.val := by fin_cases i <;> rfl
  rw [h, hi]
  match a with
  | ⟨0, _⟩ => rfl
  | ⟨1, _⟩ => exact (congrArg (· + l.val) (Nat.zero_mul 2048)).trans (Nat.zero_add _)

/-- the second operand's holds the same rows of its shard. -/
theorem blkB_shard (c : Dev nD) (i : Fin 2) (r : Fin 512) (l : Fin 2048) :
    blkB m c (point i) (ix2 r l) = m ((c : Thread nD τ).loc main_arg1) (ix2 (shardRow c i r) l) := by
  refine congrArg (m ((c : Thread nD τ).loc main_arg1)) (funext fun a => Fin.ext ?_)
  refine ((win0 (adm (F := Ideal) c 0) 1).rect_emb_val (point i) (ix2 r l) a).trans ?_
  have h : (win0 (adm (F := Ideal) c 0) 1).index (point i) = ![2 * (c.val / 2 % 2) + ((grid0.coords (point i)) 0).val, 0] := tr1_eq c _
  have hi : ((grid0.coords (point i)) 0).val = i.val := by fin_cases i <;> rfl
  rw [h, hi]
  match a with
  | ⟨0, _⟩ => rfl
  | ⟨1, _⟩ => exact (congrArg (· + l.val) (Nat.zero_mul 2048)).trans (Nat.zero_add _)

/-- The shard of a whole array that device `c` holds, at an index. -/
theorem shard_at (v : FVec Ideal ⟨2, ![4096, 2048]⟩ .f32) (c : Dev nD) (i : Fin 2) (r : Fin 512) (l : Fin 2048) :
    (Layout.blockN ⟨2, ![2048, 2048]⟩ ⟨2, ![4096, 2048]⟩ (Layout.meshBlock [2, 2] ![[1], []] c) v : FVec Ideal S2048x2048 .f32) (ix2 (shardRow c i r) l)
      = v (ix2 (globalRow (blockOf c i) r) l) := by
  rw [Layout.blockN_apply]
  refine congrArg v (funext fun a => Fin.ext ?_)
  rw [Layout.TilesN.idx_val]
  match a with
  | ⟨0, _⟩ =>
    have h : Layout.meshLin [2, 2] c.val [1] = c.val % 2 := by revert c; decide
    refine (congrArg (· * 2048 + (shardRow c i r).val) h).trans ?_
    simp only [shardRow, globalRow, blockOf]
    show c.val % 2 * 2048 + ((2 * (c.val / 2 % 2) + i.val) * 512 + r.val) = (4 * (c.val % 2) + 2 * (c.val / 2 % 2) + i.val) * 512 + r.val
    omega
  | ⟨1, _⟩ => exact (congrArg (· + l.val) (Nat.zero_mul 2048)).trans (Nat.zero_add _)

end Cert.LnProof
-- ==== Proof.Root.lean ====
module

public import proofs.«01_k».proof.Proof.Norm

/- The reference divides by a square root where the kernel multiplies by a reciprocal square root: one value on the
   argument both give it, a variance plus a positive constant. -/

@[expose] public section

noncomputable section

namespace Cert.LnProof

open Idealize.ShloMosaic

/-- The number of columns, as the programs print it, is positive; -/
theorem width_eq : Ideal.ofBits .f32 0x45000000#32 = ((2048 : ℝ) : EReal) := by
  simp [Ideal.ofBits, Ideal.ieee, -EReal.coe_mul]; norm_num
/-- and so is the constant added to the variance. -/
theorem eps_pos : 0 < Ideal.ofBits .f32 0x3727C5AC#32 := by
  simp [Ideal.ofBits, Ideal.ieee, -EReal.coe_mul]

/-- A square is nonnegative, -/
theorem square_nonneg (a : EReal) : 0 ≤ a * a := by
  induction a using EReal.rec with
  | bot => simp
  | coe r => rw [← EReal.coe_mul]; exact_mod_cast mul_self_nonneg r
  | top => simp

/-- so a variance is. -/
theorem variance_nonneg (x : Fin 2048 → EReal) : 0 ≤ variance x := by
  have hN : ((2048 : ℝ) : EReal) ≠ 0 := by exact_mod_cast (by norm_num : (2048 : ℝ) ≠ 0)
  unfold variance Ideal.div
  rw [width_eq, if_neg hN]
  refine mul_nonneg (Finset.sum_nonneg fun k _ => square_nonneg _) ?_
  rw [← EReal.coe_inv]
  exact_mod_cast (by norm_num : (0 : ℝ) ≤ (2048 : ℝ)⁻¹)

/-- On a positive argument the reciprocal square root is one over the square root. -/
theorem div_sqrt {v : EReal} (h : 0 < v) : Ideal.div 1 (Ideal.sqrt v) = Ideal.rsqrt v := by
  induction v using EReal.rec with
  | bot => exact absurd h (by simp)
  | top =>
    show (if (⊤ : EReal) = 0 then _ else 1 * (⊤ : EReal)⁻¹) = 0
    simp
  | coe r =>
    have hr : 0 < r := by exact_mod_cast h
    have hs : Real.sqrt r ≠ 0 := (Real.sqrt_pos.mpr hr).ne'
    have e1 : Ideal.sqrt (r : EReal) = (Real.sqrt r : EReal) := if_neg (not_lt.mpr hr.le)
    have e2 : Ideal.rsqrt (r : EReal) = ((Real.sqrt r)⁻¹ : ℝ) := (if_neg (not_lt.mpr hr.le)).trans (if_neg hr.ne')
    have h0 : ((Real.sqrt r : ℝ) : EReal) ≠ 0 := by exact_mod_cast hs
    rw [e1, e2, Ideal.div, if_neg h0, one_mul, EReal.coe_inv]

/-- A row normalized as the reference does it is the row normalized as the kernel does. -/
theorem hat_eq (x : Fin 2048 → EReal) (l : Fin 2048) :
    (x l - mean x) * Ideal.div 1 (Ideal.sqrt (variance x + Ideal.ofBits .f32 0x3727C5AC#32)) = hat x l :=
  congrArg ((x l - mean x) * ·) (div_sqrt (lt_of_lt_of_le eps_pos (le_add_of_nonneg_left (variance_nonneg x))))

end Cert.LnProof
-- ==== Proof.Ref.lean ====
module

public import proofs.«01_k».proof.Proof.Root
public import proofs.«01_k».proof.Proof.Gen.ReferenceIdeal.Run

/- What the reference computes: a sum over all rows. -/

@[expose] public section

noncomputable section

namespace Cert.LnProof

open Cert.ReferenceIdeal Cert.ReferenceIdeal.Gen
open Idealize.ShloMosaic Idealize.SL.Sem

/-- The reference's result from the whole operands: the sum of all rows' shares. -/
def total (X Y : FVec Ideal S4096x2048 .f32) : FVec Ideal S2x2048 .f32 := fun j =>
  ∑ r : Fin 4096, share (j 0) (fun k => X (ix2 r k)) (Y (ix2 r (j 1))) (j 1)

/-- The count that the reference's variance divides by, the columns less zero, is the number of columns; -/
theorem width_less_zero : Ideal.ofBits .f32 0x45000000#32 - (FloatOps.sitofp (F := Ideal) .f32 (0#32 : BitVec 32) : EReal) = Ideal.ofBits .f32 0x45000000#32 := by
  have h : (FloatOps.sitofp (F := Ideal) .f32 (0#32 : BitVec 32) : EReal) = 0 := by
    show (((0#32 : BitVec 32).toInt : ℝ) : EReal) = 0
    simp
  rw [h, sub_zero]
/-- it's positive, so the reference takes that quotient. -/
theorem width_pos : 0 < Ideal.ofBits .f32 0x45000000#32 := by
  rw [width_eq]; exact_mod_cast (by norm_num : (0 : ℝ) < 2048)

/-- The reference ends, on every device, with that result and its arguments unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨(h c).1.trans ?_, (h c).2⟩) (Cert.ReferenceIdeal.Value.run (F := Ideal) m ρ)
  generalize m ((c.tc : Thread nD τ).loc main_arg0) = X
  generalize m ((c.tc : Thread nD τ).loc main_arg1) = Y
  funext j
  obtain ⟨i, l, rfl⟩ : ∃ (i : Fin 2) (l : Fin 2048), j = ix2 i l := ⟨j 0, j 1, eq_ix2 j⟩
  refine Eq.trans ?_ (show ∑ r : Fin 4096, share i (fun k => X (ix2 r k)) (Y (ix2 r l)) l = total X Y (ix2 i l) from rfl)
  match i with
  | 0 =>
    simp only [share, if_true]
    pointwise []
    rw [width_less_zero]
    refine Finset.sum_congr rfl fun r _ => ?_
    rw [if_pos width_pos]
    exact congrArg (HMul.hMul (α := EReal) (β := EReal) (γ := EReal) (Y (ix2 r l))) (hat_eq (fun k => X (ix2 r k)) l)
  | 1 =>
    simp only [share, Fin.one_eq_zero_iff, Nat.succ_ne_self, if_false]
    pointwise []

end Cert.LnProof
-- ==== Proof.Total.lean ====
module

public import proofs.«01_k».proof.Proof.Blocks
public import proofs.«01_k».proof.Proof.Ref

/- The equation: the four accumulators, added in any order, are the sum of all rows' shares. -/

@[expose] public section

noncomputable section

namespace Cert.LnProof

open Cert.KernelIdeal Cert.KernelIdeal.Gen
open Idealize.ShloMosaic Idealize.ShloMosaic.TcCoe Idealize.SL.Sem

/-- The shares of one block of 512 rows of the whole operands, summed. -/
def blockShare (X Y : FVec Ideal ⟨2, ![4096, 2048]⟩ .f32) (i : Fin 2) (l : Fin 2048) (b : Fin 8) : EReal :=
  ∑ r : Fin 512, share i (fun k => X (ix2 (globalRow b r) k)) (Y (ix2 (globalRow b r) l)) l

/-- The reference's result is the sum of the eight blocks'. -/
theorem total_blocks (X Y : FVec Ideal ⟨2, ![4096, 2048]⟩ .f32) (i : Fin 2) (l : Fin 2048) :
    total X Y (ix2 i l) = ∑ b : Fin 8, blockShare X Y i l b :=
  Fin.sum_univ_tiles 8 512 rfl fun r : Fin 4096 => share i (fun k => X (ix2 r k)) (Y (ix2 r l)) l

/-- On each device the two operands' shards are its block of the whole operands. -/
def Sharded (m : (ℓ : Loc nD τ sig) → Buf (Elt Ideal) ℓ) (X Y : FVec Ideal ⟨2, ![4096, 2048]⟩ .f32) : Prop :=
  ∀ c : Dev nD,
    m ((c : Thread nD τ).loc main_arg0) = Layout.blockN ⟨2, ![2048, 2048]⟩ ⟨2, ![4096, 2048]⟩ (Layout.meshBlock [2, 2] ![[1], []] c) X
    ∧ m ((c : Thread nD τ).loc main_arg1) = Layout.blockN ⟨2, ![2048, 2048]⟩ ⟨2, ![4096, 2048]⟩ (Layout.meshBlock [2, 2] ![[1], []] c) Y

variable {m : (ℓ : Loc nD τ sig) → Buf (Elt Ideal) ℓ} {X Y : FVec Ideal ⟨2, ![4096, 2048]⟩ .f32} (h : Sharded m X Y)
include h

/-- What a device's block adds to its accumulator at a grid point is the shares of one of the eight. -/
theorem step_share (c : Dev nD) (t i : Fin 2) (l : Fin 2048) (a : FVec Ideal S2x2048 .f32) :
    k0_pay3 (blkA m c (point t)) (blkB m c (point t)) a (ix2 i l) = a (ix2 i l) + blockShare X Y i l (blockOf c t) := by
  have hA : ∀ (r : Fin 512) (k : Fin 2048), blkA m c (point t) (ix2 r k) = X (ix2 (globalRow (blockOf c t) r) k) :=
    fun r k => (blkA_shard m c t r k).trans ((congrFun (h c).1 _).trans (shard_at X c t r k))
  have hB : ∀ (r : Fin 512) (k : Fin 2048), blkB m c (point t) (ix2 r k) = Y (ix2 (globalRow (blockOf c t) r) k) :=
    fun r k => (blkB_shard m c t r k).trans ((congrFun (h c).2 _).trans (shard_at Y c t r k))
  rw [block_step]
  simp only [hA, hB, blockShare]

/-- A device's accumulator ends at the shares of its two blocks. -/
theorem acc2_share (c : Dev nD) (i : Fin 2) (l : Fin 2048) :
    acc2 m c (ix2 i l) = blockShare X Y i l (blockOf c 0) + blockShare X Y i l (blockOf c 1) := by
  refine (step_share h c 1 i l (acc1 m c)).trans (congrArg (· + _) ?_)
  refine (step_share h c 0 i l k0_pay2).trans ?_
  rw [start_zero, zero_add]

/-- Every device's result is the reference's. -/
theorem result_total (c : Dev nD) : result m c = total X Y := by
  funext j
  obtain ⟨i, l, rfl⟩ : ∃ (i : Fin 2) (l : Fin 2048), j = ix2 i l := ⟨j 0, j 1, eq_ix2 j⟩
  rw [total_blocks, Fin.sum_univ_eight]
  show acc2 m c (ix2 i l) + acc2 m (peer 0 c) (ix2 i l) + acc2 m (peer 1 c) (ix2 i l) + acc2 m (peer 2 c) (ix2 i l) = _
  rw [acc2_share h, acc2_share h, acc2_share h, acc2_share h]
  generalize blockShare X Y i l = f
  have hb : ∀ c : Dev nD,
      [blockOf c 0, blockOf c 1, blockOf (peer 0 c) 0, blockOf (peer 0 c) 1, blockOf (peer 1 c) 0, blockOf (peer 1 c) 1,
        blockOf (peer 2 c) 0, blockOf (peer 2 c) 1].Perm [0, 1, 2, 3, 4, 5, 6, 7] := by decide
  have hs := ((hb c).map f).sum_eq
  simp only [List.map_cons, List.map_nil, List.sum_cons, List.sum_nil, add_zero] at hs
  simp only [add_assoc] at hs ⊢
  exact hs

end Cert.LnProof
-- ==== Proof.Value.lean ====
module

public import proofs.«01_k».proof.Proof.Frames
public import proofs.«01_k».proof.Proof.Total

/- The value claim: the idealized kernel leaves on every device what the reference leaves. -/

@[expose] public section

noncomputable section

namespace Cert.LnProof

open Idealize.ShloMosaic Idealize.SL.Sem

/-- Over the extended reals the kernel's result, on every device, is the reference's, from any operands. -/
theorem algebraic : Cert.algebraic_KernelIdeal_ReferenceIdeal := fun m g m' g' _ hin =>
  ⟨total (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c).2.1.trans (result_total (fun c => ⟨(hin c).1, (hin c).2.1⟩) c), (h.1 c).1⟩) (run_main (F := Ideal) m g),
    (θ_run (Cert.ReferenceIdeal.defs (F := Ideal)) _ _).mono (fun _ h => h 0) (run_reference m' g')⟩

end Cert.LnProof
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.LnProof.frame_kernel, Cert.LnProof.frame_ideal, Cert.LnProof.frame_reference, trivial, Cert.LnProof.algebraic⟩

end Cert.Proof

end
